-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v53)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v53) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v149) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v20) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_scores.lean ====
abbrev S16384x3072 : Shape := ⟨2, ![16384, 3072]⟩
abbrev S512x3072 : Shape := ⟨2, ![512, 3072]⟩
abbrev S8x15x31 : Shape := ⟨3, ![8, 15, 31]⟩
abbrev S16384x2048 : Shape := ⟨2, ![16384, 2048]⟩
abbrev S512x1024 : Shape := ⟨2, ![512, 1024]⟩
abbrev S_ : Shape := ⟨0, ![]⟩

class Facts : Prop where
  slices_S16384x3072_S16384x2048_0_0 : S16384x3072.Slices ![0, 0] S16384x2048
  bitsLt_bf16_f32 : FTy.bits .bf16 < FTy.bits .f32
  slices_S512x3072_S512x1024_0_1024 : S512x3072.Slices ![0, 1024] S512x1024
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S16384x3072 .bf16) (main_arg1 : FVec F S512x3072 .bf16) (main_arg2 : FVec F S8x15x31 .f32) : IVec S_ 1 :=
  let main_v0 : FVec F S16384x2048 .bf16 := (extractStridedSlice S16384x2048 ![0, 0] · slices_S16384x3072_S16384x2048_0_0) main_arg0
  let main_v1 : FVec F S16384x2048 .f32 := (extf .f32 · bitsLt_bf16_f32) main_v0
  let main_v2 : FVec F S512x1024 .bf16 := (extractStridedSlice S512x1024 ![0, 1024] · slices_S512x3072_S512x1024_0_1024) main_arg1
  let main_v3 : FVec F S512x1024 .f32 := (extf .f32 · bitsLt_bf16_f32) main_v2
  let main_v4 : FVec F S16384x2048 .f32 := Host.absf main_v1
  let main_cst : FVec F S_ .f32 := constant S_ .f32 0x7F800000#32
  let main_v5 : FVec F S16384x2048 .f32 := broadcastInDim S16384x2048 ![] bcast_S_S16384x2048 main_cst
  let main_v6 : IVec S16384x2048 1 := cmpf .olt main_v4 main_v5
  let main_c : IVec S_ 1 := constantI S_ 1 1#1
  let main_v7 : IVec S_ 1 := (fun x v => Host.reduce IntOp.andi x v reducesTo_S16384x2048_S_d0_1 h_S_) main_v6 main_c
  let main_v8 : FVec F S512x1024 .f32 := Host.absf main_v3
  let main_cst_0 : FVec F S_ .f32 := constant S_ .f32 0x7F800000#32
  let main_v9 : FVec F S512x1024 .f32 := broadcastInDim S512x1024 ![] bcast_S_S512x1024 main_cst_0
  let main_v10 : IVec S512x1024 1 := cmpf .olt main_v8 main_v9
  let main_c_1 : IVec S_ 1 := constantI S_ 1 1#1
  let main_v11 : IVec S_ 1 := (fun x v => Host.reduce IntOp.andi x v reducesTo_S512x1024_S_d0_1 h_S_) main_v10 main_c_1
  let main_v12 : IVec S_ 1 := andi main_v7 main_v11
  let main_v13 : FVec F S8x15x31 .f32 := Host.absf main_arg2
  let main_cst_2 : FVec F S_ .f32 := constant S_ .f32 0x7F800000#32
  let main_v14 : FVec F S8x15x31 .f32 := broadcastInDim S8x15x31 ![] bcast_S_S8x15x31 main_cst_2
  let main_v15 : IVec S8x15x31 1 := cmpf .olt main_v13 main_v14
  let main_c_3 : IVec S_ 1 := constantI S_ 1 1#1
  let main_v16 : IVec S_ 1 := (fun x v => Host.reduce IntOp.andi x v reducesTo_S8x15x31_S_d0_1_2 h_S_) main_v15 main_c_3
  let main_v17 : IVec S_ 1 := andi main_v12 main_v16
  main_v17
-- ==== Kernel.lean ====
abbrev S16384x3072 : Shape := ⟨2, ![16384, 3072]⟩
abbrev S512x3072 : Shape := ⟨2, ![512, 3072]⟩
abbrev S8x15x31 : Shape := ⟨3, ![8, 15, 31]⟩
abbrev S64x64 : Shape := ⟨2, ![64, 64]⟩
abbrev S64x512 : Shape := ⟨2, ![64, 512]⟩
abbrev S_ : Shape := ⟨0, ![]⟩
abbrev S64x64x1 : Shape := ⟨3, ![64, 64, 1]⟩
abbrev S8x15x64x64 : Shape := ⟨4, ![8, 15, 64, 64]⟩
abbrev S8x1x64x64 : Shape := ⟨4, ![8, 1, 64, 64]⟩
abbrev S8x64x64 : Shape := ⟨3, ![8, 64, 64]⟩
abbrev S8x64x512 : Shape := ⟨3, ![8, 64, 512]⟩
abbrev S8x1x64x512 : Shape := ⟨4, ![8, 1, 64, 512]⟩
abbrev S8x8x64x512 : Shape := ⟨4, ![8, 8, 64, 512]⟩
abbrev S16384x1024 : Shape := ⟨2, ![16384, 1024]⟩
abbrev S256x128 : Shape := ⟨2, ![256, 128]⟩
abbrev S8192x128 : Shape := ⟨2, ![8192, 128]⟩
abbrev S1x8x64x512 : Shape := ⟨4, ![1, 8, 64, 512]⟩
abbrev S64x128 : Shape := ⟨2, ![64, 128]⟩
abbrev S512x128 : Shape := ⟨2, ![512, 128]⟩
abbrev S1x1x64x512 : Shape := ⟨4, ![1, 1, 64, 512]⟩
abbrev S64x256 : Shape := ⟨2, ![64, 256]⟩
abbrev S64 : Shape := ⟨1, ![64]⟩
abbrev S64x1 : Shape := ⟨2, ![64, 1]⟩

abbrev nBuf : Space → Nat
  | .hbm => 158
  | .vmem => 15
  | .smem => 0
  | _ => 0

abbrev hbmTy0_0 (i : Nat) : BufTy := match i % 128 with
  | 0 => ⟨S16384x3072, .bf16⟩
  | 1 => ⟨S512x3072, .bf16⟩
  | 2 => ⟨S8x15x31, .f32⟩
  | 3 => ⟨S64x64, .i32⟩
  | 4 => ⟨S64x64, .i1⟩
  | 5 => ⟨S64x512, .f32⟩
  | 6 => ⟨S_, .i32⟩
  | 7 => ⟨S64x64, .i32⟩
  | 8 => ⟨S64x64, .i32⟩
  | 9 => ⟨S64x64, .i32⟩
  | 10 => ⟨S64x64x1, .i32⟩
  | 11 => ⟨S8x15x64x64, .f32⟩
  | 12 => ⟨S8x1x64x64, .f32⟩
  | 13 => ⟨S8x64x64, .f32⟩
  | 14 => ⟨S8x1x64x64, .f32⟩
  | 15 => ⟨S8x64x64, .f32⟩
  | 16 => ⟨S8x1x64x64, .f32⟩
  | 17 => ⟨S8x64x64, .f32⟩
  | 18 => ⟨S8x1x64x64, .f32⟩
  | 19 => ⟨S8x64x64, .f32⟩
  | 20 => ⟨S8x1x64x64, .f32⟩
  | 21 => ⟨S8x64x64, .f32⟩
  | 22 => ⟨S8x1x64x64, .f32⟩
  | 23 => ⟨S8x64x64, .f32⟩
  | 24 => ⟨S8x1x64x64, .f32⟩
  | 25 => ⟨S8x64x64, .f32⟩
  | 26 => ⟨S8x1x64x64, .f32⟩
  | 27 => ⟨S8x64x64, .f32⟩
  | 28 => ⟨S8x64x512, .f32⟩
  | 29 => ⟨S8x1x64x64, .f32⟩
  | 30 => ⟨S8x64x64, .f32⟩
  | 31 => ⟨S8x1x64x64, .f32⟩
  | 32 => ⟨S8x64x64, .f32⟩
  | 33 => ⟨S8x1x64x64, .f32⟩
  | 34 => ⟨S8x64x64, .f32⟩
  | 35 => ⟨S8x1x64x64, .f32⟩
  | 36 => ⟨S8x64x64, .f32⟩
  | 37 => ⟨S8x1x64x64, .f32⟩
  | 38 => ⟨S8x64x64, .f32⟩
  | 39 => ⟨S8x1x64x64, .f32⟩
  | 40 => ⟨S8x64x64, .f32⟩
  | 41 => ⟨S8x1x64x64, .f32⟩
  | 42 => ⟨S8x64x64, .f32⟩
  | 43 => ⟨S8x1x64x64, .f32⟩
  | 44 => ⟨S8x64x64, .f32⟩
  | 45 => ⟨S8x64x512, .f32⟩
  | 46 => ⟨S8x1x64x64, .f32⟩
  | 47 => ⟨S8x64x64, .f32⟩
  | 48 => ⟨S8x1x64x64, .f32⟩
  | 49 => ⟨S8x64x64, .f32⟩
  | 50 => ⟨S8x1x64x64, .f32⟩
  | 51 => ⟨S8x64x64, .f32⟩
  | 52 => ⟨S8x1x64x64, .f32⟩
  | 53 => ⟨S8x64x64, .f32⟩
  | 54 => ⟨S8x1x64x64, .f32⟩
  | 55 => ⟨S8x64x64, .f32⟩
  | 56 => ⟨S8x1x64x64, .f32⟩
  | 57 => ⟨S8x64x64, .f32⟩
  | 58 => ⟨S8x1x64x64, .f32⟩
  | 59 => ⟨S8x64x64, .f32⟩
  | 60 => ⟨S8x1x64x64, .f32⟩
  | 61 => ⟨S8x64x64, .f32⟩
  | 62 => ⟨S8x64x512, .f32⟩
  | 63 => ⟨S8x1x64x64, .f32⟩
  | 64 => ⟨S8x64x64, .f32⟩
  | 65 => ⟨S8x1x64x64, .f32⟩
  | 66 => ⟨S8x64x64, .f32⟩
  | 67 => ⟨S8x1x64x64, .f32⟩
  | 68 => ⟨S8x64x64, .f32⟩
  | 69 => ⟨S8x1x64x64, .f32⟩
  | 70 => ⟨S8x64x64, .f32⟩
  | 71 => ⟨S8x1x64x64, .f32⟩
  | 72 => ⟨S8x64x64, .f32⟩
  | 73 => ⟨S8x1x64x64, .f32⟩
  | 74 => ⟨S8x64x64, .f32⟩
  | 75 => ⟨S8x1x64x64, .f32⟩
  | 76 => ⟨S8x64x64, .f32⟩
  | 77 => ⟨S8x1x64x64, .f32⟩
  | 78 => ⟨S8x64x64, .f32⟩
  | 79 => ⟨S8x64x512, .f32⟩
  | 80 => ⟨S8x1x64x64, .f32⟩
  | 81 => ⟨S8x64x64, .f32⟩
  | 82 => ⟨S8x1x64x64, .f32⟩
  | 83 => ⟨S8x64x64, .f32⟩
  | 84 => ⟨S8x1x64x64, .f32⟩
  | 85 => ⟨S8x64x64, .f32⟩
  | 86 => ⟨S8x1x64x64, .f32⟩
  | 87 => ⟨S8x64x64, .f32⟩
  | 88 => ⟨S8x1x64x64, .f32⟩
  | 89 => ⟨S8x64x64, .f32⟩
  | 90 => ⟨S8x1x64x64, .f32⟩
  | 91 => ⟨S8x64x64, .f32⟩
  | 92 => ⟨S8x1x64x64, .f32⟩
  | 93 => ⟨S8x64x64, .f32⟩
  | 94 => ⟨S8x1x64x64, .f32⟩
  | 95 => ⟨S8x64x64, .f32⟩
  | 96 => ⟨S8x64x512, .f32⟩
  | 97 => ⟨S8x1x64x64, .f32⟩
  | 98 => ⟨S8x64x64, .f32⟩
  | 99 => ⟨S8x1x64x64, .f32⟩
  | 100 => ⟨S8x64x64, .f32⟩
  | 101 => ⟨S8x1x64x64, .f32⟩
  | 102 => ⟨S8x64x64, .f32⟩
  | 103 => ⟨S8x1x64x64, .f32⟩
  | 104 => ⟨S8x64x64, .f32⟩
  | 105 => ⟨S8x1x64x64, .f32⟩
  | 106 => ⟨S8x64x64, .f32⟩
  | 107 => ⟨S8x1x64x64, .f32⟩
  | 108 => ⟨S8x64x64, .f32⟩
  | 109 => ⟨S8x1x64x64, .f32⟩
  | 110 => ⟨S8x64x64, .f32⟩
  | 111 => ⟨S8x1x64x64, .f32⟩
  | 112 => ⟨S8x64x64, .f32⟩
  | 113 => ⟨S8x64x512, .f32⟩
  | 114 => ⟨S8x1x64x64, .f32⟩
  | 115 => ⟨S8x64x64, .f32⟩
  | 116 => ⟨S8x1x64x64, .f32⟩
  | 117 => ⟨S8x64x64, .f32⟩
  | 118 => ⟨S8x1x64x64, .f32⟩
  | 119 => ⟨S8x64x64, .f32⟩
  | 120 => ⟨S8x1x64x64, .f32⟩
  | 121 => ⟨S8x64x64, .f32⟩
  | 122 => ⟨S8x1x64x64, .f32⟩
  | 123 => ⟨S8x64x64, .f32⟩
  | 124 => ⟨S8x1x64x64, .f32⟩
  | 125 => ⟨S8x64x64, .f32⟩
  | 126 => ⟨S8x1x64x64, .f32⟩
  | 127 => ⟨S8x64x64, .f32⟩
  | _ => ⟨S16384x3072, .bf16⟩

abbrev hbmTy0_1 (i : Nat) : BufTy := match i % 128 with
  | 0 => ⟨S8x1x64x64, .f32⟩
  | 1 => ⟨S8x64x64, .f32⟩
  | 2 => ⟨S8x64x512, .f32⟩
  | 3 => ⟨S8x1x64x64, .f32⟩
  | 4 => ⟨S8x64x64, .f32⟩
  | 5 => ⟨S8x1x64x64, .f32⟩
  | 6 => ⟨S8x64x64, .f32⟩
  | 7 => ⟨S8x1x64x64, .f32⟩
  | 8 => ⟨S8x64x64, .f32⟩
  | 9 => ⟨S8x1x64x64, .f32⟩
  | 10 => ⟨S8x64x64, .f32⟩
  | 11 => ⟨S8x1x64x64, .f32⟩
  | 12 => ⟨S8x64x64, .f32⟩
  | 13 => ⟨S8x1x64x64, .f32⟩
  | 14 => ⟨S8x64x64, .f32⟩
  | 15 => ⟨S8x1x64x64, .f32⟩
  | 16 => ⟨S8x64x64, .f32⟩
  | 17 => ⟨S8x1x64x64, .f32⟩
  | 18 => ⟨S8x64x64, .f32⟩
  | 19 => ⟨S8x64x512, .f32⟩
  | 20 => ⟨S8x1x64x512, .f32⟩
  | 21 => ⟨S8x1x64x512, .f32⟩
  | 22 => ⟨S8x1x64x512, .f32⟩
  | 23 => ⟨S8x1x64x512, .f32⟩
  | 24 => ⟨S8x1x64x512, .f32⟩
  | 25 => ⟨S8x1x64x512, .f32⟩
  | 26 => ⟨S8x1x64x512, .f32⟩
  | 27 => ⟨S8x1x64x512, .f32⟩
  | 28 => ⟨S8x8x64x512, .f32⟩
  | 29 => ⟨S16384x1024, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x8x64x512, .f32⟩
  | .local _ .vmem, ⟨11, _⟩ => ⟨S1x8x64x512, .f32⟩
  | .local _ .vmem, ⟨12, _⟩ => ⟨S64x512, .f32⟩
  | .local _ .vmem, ⟨13, _⟩ => ⟨S256x128, .bf16⟩
  | .local _ .vmem, ⟨14, _⟩ => ⟨S256x128, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 8, 32], ![false, false, false]⟩

def k0_mult1 (i : grid0.Coords) : BitVec 32 :=
  let c120_i32 : BitVec 32 := 120#32
  let c0_i32_6 : BitVec 32 := 0#32
  let arg2 : BitVec 32 := BitVec.ofNat 32 (i 2).val
  let c4_i32 : BitVec 32 := 4#32
  let v5 : BitVec 32 := Scalar.muli arg2 c4_i32
  let c0_i32 : BitVec 32 := 0#32
  let v6 : BitVec 32 := Scalar.addi v5 c0_i32
  let c4_i32_5 : BitVec 32 := 4#32
  let v7 : BitVec 32 := Scalar.subi v6 c4_i32_5
  let v8 : BitVec 32 := Scalar.maxsi c0_i32_6 v7
  let v9 : BitVec 32 := Scalar.minsi c120_i32 v8
  let c64_i32 : BitVec 32 := 64#32
  let v13 : BitVec 32 := Scalar.muli v9 c64_i32
  v13
def k0_off1 (i : grid0.Coords) (c0_i32 : BitVec 32) : Fin 2 → Nat :=
  let c120_i32 : BitVec 32 := 120#32
  let c0_i32_6 : BitVec 32 := 0#32
  let arg2 : BitVec 32 := BitVec.ofNat 32 (i 2).val
  let c4_i32 : BitVec 32 := 4#32
  let v5 : BitVec 32 := Scalar.muli arg2 c4_i32
  let v6 : BitVec 32 := Scalar.addi v5 c0_i32
  let c4_i32_5 : BitVec 32 := 4#32
  let v7 : BitVec 32 := Scalar.subi v6 c4_i32_5
  let v8 : BitVec 32 := Scalar.maxsi c0_i32_6 v7
  let v9 : BitVec 32 := Scalar.minsi c120_i32 v8
  let c64_i32 : BitVec 32 := 64#32
  let v13 : BitVec 32 := Scalar.muli v9 c64_i32
  let v14 : BitVec 32 := v13
  let v16 : Index := Scalar.indexCast v14
  let c0_9 : Index := 0#32
  ![v16.toNat, 0]
def k0_off2 (i : grid0.Coords) (c0_i32 : BitVec 32) : Fin 4 → Nat :=
  let c0_12 : Index := 0#32
  let c120_i32 : BitVec 32 := 120#32
  let c0_i32_6 : BitVec 32 := 0#32
  let arg2 : BitVec 32 := BitVec.ofNat 32 (i 2).val
  let c4_i32 : BitVec 32 := 4#32
  let v5 : BitVec 32 := Scalar.muli arg2 c4_i32
  let v6 : BitVec 32 := Scalar.addi v5 c0_i32
  let c4_i32_5 : BitVec 32 := 4#32
  let v7 : BitVec 32 := Scalar.subi v6 c4_i32_5
  let v8 : BitVec 32 := Scalar.maxsi c0_i32_6 v7
  let v9 : BitVec 32 := Scalar.minsi c120_i32 v8
  let v10 : BitVec 32 := Scalar.subi v9 v6
  let c8_i32 : BitVec 32 := 8#32
  let v11 : BitVec 32 := Scalar.addi v10 c8_i32
  let c1_i32 : BitVec 32 := 1#32
  let v12 : BitVec 32 := Scalar.subi v11 c1_i32
  let v21 : Index := Scalar.indexCast v12
  let c0_13 : Index := 0#32
  let c0_14 : Index := 0#32
  ![0, v21.toNat, 0, 0]
def k0_mult2 (i : grid0.Coords) : BitVec 32 :=
  let c120_i32_29 : BitVec 32 := 120#32
  let c0_i32_28 : BitVec 32 := 0#32
  let arg2 : BitVec 32 := BitVec.ofNat 32 (i 2).val
  let c4_i32_25 : BitVec 32 := 4#32
  let v53 : BitVec 32 := Scalar.muli arg2 c4_i32_25
  let c1_i32_26 : BitVec 32 := 1#32
  let v54 : BitVec 32 := Scalar.addi v53 c1_i32_26
  let c4_i32_27 : BitVec 32 := 4#32
  let v55 : BitVec 32 := Scalar.subi v54 c4_i32_27
  let v56 : BitVec 32 := Scalar.maxsi c0_i32_28 v55
  let v57 : BitVec 32 := Scalar.minsi c120_i32_29 v56
  let c64_i32_32 : BitVec 32 := 64#32
  let v61 : BitVec 32 := Scalar.muli v57 c64_i32_32
  v61
def k0_mult3 (i : grid0.Coords) : BitVec 32 :=
  let c120_i32_53 : BitVec 32 := 120#32
  let c0_i32_52 : BitVec 32 := 0#32
  let arg2 : BitVec 32 := BitVec.ofNat 32 (i 2).val
  let c4_i32_50 : BitVec 32 := 4#32
  let v101 : BitVec 32 := Scalar.muli arg2 c4_i32_50
  let c2_i32 : BitVec 32 := 2#32
  let v102 : BitVec 32 := Scalar.addi v101 c2_i32
  let c4_i32_51 : BitVec 32 := 4#32
  let v103 : BitVec 32 := Scalar.subi v102 c4_i32_51
  let v104 : BitVec 32 := Scalar.maxsi c0_i32_52 v103
  let v105 : BitVec 32 := Scalar.minsi c120_i32_53 v104
  let c64_i32_56 : BitVec 32 := 64#32
  let v109 : BitVec 32 := Scalar.muli v105 c64_i32_56
  v109
def k0_mult4 (i : grid0.Coords) : BitVec 32 :=
  let c120_i32_77 : BitVec 32 := 120#32
  let c0_i32_76 : BitVec 32 := 0#32
  let arg2 : BitVec 32 := BitVec.ofNat 32 (i 2).val
  let c4_i32_74 : BitVec 32 := 4#32
  let v149 : BitVec 32 := Scalar.muli arg2 c4_i32_74
  let c3_i32 : BitVec 32 := 3#32
  let v150 : BitVec 32 := Scalar.addi v149 c3_i32
  let c4_i32_75 : BitVec 32 := 4#32
  let v151 : BitVec 32 := Scalar.subi v150 c4_i32_75
  let v152 : BitVec 32 := Scalar.maxsi c0_i32_76 v151
  let v153 : BitVec 32 := Scalar.minsi c120_i32_77 v152
  let c64_i32_80 : BitVec 32 := 64#32
  let v157 : BitVec 32 := Scalar.muli v153 c64_i32_80
  v157
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16384x3072 : Shape := ⟨2, ![16384, 3072]⟩
abbrev S512x3072 : Shape := ⟨2, ![512, 3072]⟩
abbrev S8x15x31 : Shape := ⟨3, ![8, 15, 31]⟩
abbrev S16384x1024 : Shape := ⟨2, ![16384, 1024]⟩
abbrev S2x8192x8x128 : Shape := ⟨4, ![2, 8192, 8, 128]⟩
abbrev S2x8x8192x128 : Shape := ⟨4, ![2, 8, 8192, 128]⟩
abbrev S512x1024 : Shape := ⟨2, ![512, 1024]⟩
abbrev S2x256x8x128 : Shape := ⟨4, ![2, 256, 8, 128]⟩
abbrev S2x8x256x128 : Shape := ⟨4, ![2, 8, 256, 128]⟩
abbrev S128 : Shape := ⟨1, ![128]⟩
abbrev S64 : Shape := ⟨1, ![64]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S1x64 : Shape := ⟨2, ![1, 64]⟩
abbrev S64x1 : Shape := ⟨2, ![64, 1]⟩
abbrev S64x64 : Shape := ⟨2, ![64, 64]⟩
abbrev S2x8x128x64x128 : Shape := ⟨5, ![2, 8, 128, 64, 128]⟩
abbrev S128x8x1 : Shape := ⟨3, ![128, 8, 1]⟩
abbrev S2x8x128x8x64x128 : Shape := ⟨6, ![2, 8, 128, 8, 64, 128]⟩
abbrev S2x8x128x64x8x64 : Shape := ⟨6, ![2, 8, 128, 64, 8, 64]⟩
abbrev S8x128x8x31 : Shape := ⟨4, ![8, 128, 8, 31]⟩
abbrev S64x64x1 : Shape := ⟨3, ![64, 64, 1]⟩
abbrev S8x128x8x64x64 : Shape := ⟨5, ![8, 128, 8, 64, 64]⟩
abbrev S8x128x64x8x64 : Shape := ⟨5, ![8, 128, 64, 8, 64]⟩
abbrev S1x1x1x64x1x64 : Shape := ⟨6, ![1, 1, 1, 64, 1, 64]⟩
abbrev S1x8x128x64x8x64 : Shape := ⟨6, ![1, 8, 128, 64, 8, 64]⟩
abbrev S2x8x128x64x512 : Shape := ⟨5, ![2, 8, 128, 64, 512]⟩
abbrev S2x8x128x64x256 : Shape := ⟨5, ![2, 8, 128, 64, 256]⟩
abbrev S2x8x128x64x768 : Shape := ⟨5, ![2, 8, 128, 64, 768]⟩
abbrev S2x8x128x64 : Shape := ⟨4, ![2, 8, 128, 64]⟩
abbrev S2x8x128x64x1 : Shape := ⟨5, ![2, 8, 128, 64, 1]⟩
abbrev S2x8x128x512x128 : Shape := ⟨5, ![2, 8, 128, 512, 128]⟩

abbrev nBuf : Space → Nat
  | .hbm => 172
  | .vmem => 0
  | .smem => 0
  | _ => 0

abbrev hbmTy0_0 (i : Nat) : BufTy := match i % 128 with
  | 0 => ⟨S16384x3072, .bf16⟩
  | 1 => ⟨S512x3072, .bf16⟩
  | 2 => ⟨S8x15x31, .f32⟩
  | 3 => ⟨S16384x3072, .f32⟩
  | 4 => ⟨S512x3072, .f32⟩
  | 5 => ⟨S16384x1024, .f32⟩
  | 6 => ⟨S16384x1024, .f32⟩
  | 7 => ⟨S16384x1024, .f32⟩
  | 8 => ⟨S2x8192x8x128, .f32⟩
  | 9 => ⟨S2x8x8192x128, .f32⟩
  | 10 => ⟨S2x8192x8x128, .f32⟩
  | 11 => ⟨S2x8x8192x128, .f32⟩
  | 12 => ⟨S2x8192x8x128, .f32⟩
  | 13 => ⟨S2x8x8192x128, .f32⟩
  | 14 => ⟨S512x1024, .f32⟩
  | 15 => ⟨S512x1024, .f32⟩
  | 16 => ⟨S512x1024, .f32⟩
  | 17 => ⟨S2x256x8x128, .f32⟩
  | 18 => ⟨S2x8x256x128, .f32⟩
  | 19 => ⟨S2x256x8x128, .f32⟩
  | 20 => ⟨S2x8x256x128, .f32⟩
  | 21 => ⟨S2x256x8x128, .f32⟩
  | 22 => ⟨S2x8x256x128, .f32⟩
  | 23 => ⟨S128, .i32⟩
  | 24 => ⟨S64, .i32⟩
  | 25 => ⟨S_, .i32⟩
  | 26 => ⟨S128, .i32⟩
  | 27 => ⟨S128, .i32⟩
  | 28 => ⟨S_, .i32⟩
  | 29 => ⟨S_, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128x1, .i32⟩
  | 37 => ⟨S8, .i32⟩
  | 38 => ⟨S1x8, .i32⟩
  | 39 => ⟨S128x8, .i32⟩
  | 40 => ⟨S128x8, .i32⟩
  | 41 => ⟨S128x8, .i32⟩
  | 42 => ⟨S_, .i32⟩
  | 43 => ⟨S64, .i32⟩
  | 44 => ⟨S64, .i32⟩
  | 45 => ⟨S_, .i32⟩
  | 46 => ⟨S_, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S1x64, .i32⟩
  | 54 => ⟨S64x1, .i32⟩
  | 55 => ⟨S64x64, .i32⟩
  | 56 => ⟨S64x64, .i32⟩
  | 57 => ⟨S64x64, .i1⟩
  | 58 => ⟨S1x64, .i32⟩
  | 59 => ⟨S64x1, .i32⟩
  | 60 => ⟨S_, .i32⟩
  | 61 => ⟨S64x1, .i32⟩
  | 62 => ⟨S64x1, .i32⟩
  | 63 => ⟨S64x64, .i32⟩
  | 64 => ⟨S64x64, .i32⟩
  | 65 => ⟨S64x64, .i1⟩
  | 66 => ⟨S64x64, .i1⟩
  | 67 => ⟨S2x8x128x64x128, .f32⟩
  | 68 => ⟨S2x8x128x64x128, .f32⟩
  | 69 => ⟨S_, .i32⟩
  | 70 => ⟨S128x8, .i32⟩
  | 71 => ⟨S128x8, .i1⟩
  | 72 => ⟨S_, .i32⟩
  | 73 => ⟨S128x8, .i32⟩
  | 74 => ⟨S128x8, .i32⟩
  | 75 => ⟨S128x8, .i32⟩
  | 76 => ⟨S128x8x1, .i32⟩
  | 77 => ⟨S2x8x128x8x64x128, .f32⟩
  | 78 => ⟨S2x8x128x64x128, .f32⟩
  | 79 => ⟨S_, .i32⟩
  | 80 => ⟨S128x8, .i32⟩
  | 81 => ⟨S128x8, .i1⟩
  | 82 => ⟨S_, .i32⟩
  | 83 => ⟨S128x8, .i32⟩
  | 84 => ⟨S128x8, .i32⟩
  | 85 => ⟨S128x8, .i32⟩
  | 86 => ⟨S128x8x1, .i32⟩
  | 87 => ⟨S2x8x128x8x64x128, .f32⟩
  | 88 => ⟨S2x8x128x64x8x64, .f32⟩
  | 89 => ⟨S128x1, .i32⟩
  | 90 => ⟨S128x8, .i32⟩
  | 91 => ⟨S128x8, .i32⟩
  | 92 => ⟨S_, .i32⟩
  | 93 => ⟨S128x8, .i32⟩
  | 94 => ⟨S128x8, .i32⟩
  | 95 => ⟨S_, .i32⟩
  | 96 => ⟨S128x8, .i32⟩
  | 97 => ⟨S128x8, .i32⟩
  | 98 => ⟨S1x64, .i32⟩
  | 99 => ⟨S64x1, .i32⟩
  | 100 => ⟨S64x64, .i32⟩
  | 101 => ⟨S64x64, .i32⟩
  | 102 => ⟨S64x64, .i32⟩
  | 103 => ⟨S_, .i32⟩
  | 104 => ⟨S64x64, .i32⟩
  | 105 => ⟨S64x64, .i32⟩
  | 106 => ⟨S_, .i32⟩
  | 107 => ⟨S64x64, .i32⟩
  | 108 => ⟨S64x64, .i32⟩
  | 109 => ⟨S_, .i32⟩
  | 110 => ⟨S_, .i32⟩
  | 111 => ⟨S_, .i32⟩
  | 112 => ⟨S64x64, .i32⟩
  | 113 => ⟨S64x64, .i32⟩
  | 114 => ⟨S_, .i32⟩
  | 115 => ⟨S64x64, .i32⟩
  | 116 => ⟨S64x64, .i32⟩
  | 117 => ⟨S_, .i32⟩
  | 118 => ⟨S128x8, .i32⟩
  | 119 => ⟨S128x8, .i1⟩
  | 120 => ⟨S_, .i32⟩
  | 121 => ⟨S128x8, .i32⟩
  | 122 => ⟨S128x8, .i32⟩
  | 123 => ⟨S128x8, .i32⟩
  | 124 => ⟨S128x8x1, .i32⟩
  | 125 => ⟨S8x128x8x31, .f32⟩
  | 126 => ⟨S_, .i32⟩
  | 127 => ⟨S64x64, .i32⟩
  | _ => ⟨S16384x3072, .bf16⟩

abbrev hbmTy0_1 (i : Nat) : BufTy := match i % 128 with
  | 0 => ⟨S64x64, .i1⟩
  | 1 => ⟨S_, .i32⟩
  | 2 => ⟨S64x64, .i32⟩
  | 3 => ⟨S64x64, .i32⟩
  | 4 => ⟨S64x64, .i32⟩
  | 5 => ⟨S64x64x1, .i32⟩
  | 6 => ⟨S8x128x8x64x64, .f32⟩
  | 7 => ⟨S8x128x64x8x64, .f32⟩
  | 8 => ⟨S1x1x1x64x1x64, .i1⟩
  | 9 => ⟨S1x8x128x64x8x64, .f32⟩
  | 10 => ⟨S2x8x128x64x8x64, .f32⟩
  | 11 => ⟨S2x8x128x64x8x64, .f32⟩
  | 12 => ⟨S_, .f32⟩
  | 13 => ⟨S_, .f32⟩
  | 14 => ⟨S2x8x128x64x8x64, .i1⟩
  | 15 => ⟨S2x8x128x64x8x64, .f32⟩
  | 16 => ⟨S2x8x128x64x8x64, .f32⟩
  | 17 => ⟨S2x8x128x64x512, .f32⟩
  | 18 => ⟨S2x8x128x64x256, .f32⟩
  | 19 => ⟨S2x8x128x64x768, .f32⟩
  | 20 => ⟨S_, .f32⟩
  | 21 => ⟨S2x8x128x64, .f32⟩
  | 22 => ⟨S_, .f32⟩
  | 23 => ⟨S2x8x128x64, .f32⟩
  | 24 => ⟨S2x8x128x64, .f32⟩
  | 25 => ⟨S2x8x128x64x1, .f32⟩
  | 26 => ⟨S2x8x128x64x768, .f32⟩
  | 27 => ⟨S2x8x128x64x768, .f32⟩
  | 28 => ⟨S2x8x128x64x768, .f32⟩
  | 29 => ⟨S_, .f32⟩
  | 30 => ⟨S2x8x128x64, .f32⟩
  | 31 => ⟨S2x8x128x64x1, .f32⟩
  | 32 => ⟨S2x8x128x64x768, .f32⟩
  | 33 => ⟨S2x8x128x64x768, .f32⟩
  | 34 => ⟨S2x8x128x64x512, .f32⟩
  | 35 => ⟨S2x8x128x512x128, .f32⟩
  | 36 => ⟨S2x8x128x64x128, .f32⟩
  | 37 => ⟨S2x8x128x64x256, .f32⟩
  | 38 => ⟨S2x8x128x64x128, .f32⟩
  | 39 => ⟨S2x8x128x64x128, .f32⟩
  | 40 => ⟨S2x8x8192x128, .f32⟩
  | 41 => ⟨S2x8192x8x128, .f32⟩
  | 42 => ⟨S16384x1024, .f32⟩
  | 43 => ⟨S16384x1024, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_c_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_8 : Ref sig .tc := ⟨.hbm, 79, rfl⟩
abbrev main_v57 : Ref sig .tc := ⟨.hbm, 80, rfl⟩
abbrev main_v58 : Ref sig .tc := ⟨.hbm, 81, rfl⟩
abbrev main_c_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_10 : Ref sig .tc := ⟨.hbm, 92, rfl⟩
abbrev main_v68 : Ref sig .tc := ⟨.hbm, 93, rfl⟩
abbrev main_v69 : Ref sig .tc := ⟨.hbm, 94, rfl⟩
abbrev main_c_11 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_12 : Ref sig .tc := ⟨.hbm, 103, rfl⟩
abbrev main_v77 : Ref sig .tc := ⟨.hbm, 104, rfl⟩
abbrev main_v78 : Ref sig .tc := ⟨.hbm, 105, rfl⟩
abbrev main_c_13 : Ref sig .tc := ⟨.hbm, 106, rfl⟩
abbrev main_v79 : Ref sig .tc := ⟨.hbm, 107, rfl⟩
abbrev main_v80 : Ref sig .tc := ⟨.hbm, 108, rfl⟩
abbrev main_c_14 : Ref sig .tc := ⟨.hbm, 109, rfl⟩
abbrev main_c_15 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_v81 : Ref sig .tc := ⟨.hbm, 116, rfl⟩
abbrev main_c_16 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_18 : Ref sig .tc := ⟨.hbm, 126, rfl⟩
abbrev main_v89 : Ref sig .tc := ⟨.hbm, 127, rfl⟩
abbrev main_v90 : Ref sig .tc := ⟨.hbm, 128, rfl⟩
abbrev main_c_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_20 : Ref sig .tc := ⟨.hbm, 148, rfl⟩
abbrev main_v105 : Ref sig .tc := ⟨.hbm, 149, rfl⟩
abbrev main_cst_21 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_22 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩

abbrev nD : Nat := 1
abbrev τ : Topo := Topo.v7x

variable {F : FTy → Type} [FloatOps F]
-- ==== Kernel2.lean ====
abbrev S16384x4096 : Shape := ⟨2, ![16384, 4096]⟩
abbrev S4096x11008 : Shape := ⟨2, ![4096, 11008]⟩
abbrev S16384x11008 : Shape := ⟨2, ![16384, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S4096x11008, .bf16⟩
  | .hbm, ⟨4, _⟩ => ⟨S4096x11008, .bf16⟩
  | .hbm, ⟨5, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x256, .bf16⟩
  | .local _ .vmem, ⟨7, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4096x11008 : Shape := ⟨2, ![4096, 11008]⟩
abbrev S16384x11008 : Shape := ⟨2, ![16384, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S16384x4096, .f32⟩
  | .hbm, ⟨4, _⟩ => ⟨S16384x11008, .f32⟩
  | .hbm, ⟨5, _⟩ => ⟨S16384x11008, .f32⟩
  | .hbm, ⟨6, _⟩ => ⟨S16384x11008, .f32⟩
  | .hbm, ⟨7, _⟩ => ⟨S_, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel3.lean ====
abbrev S16384x11008 : Shape := ⟨2, ![16384, 11008]⟩
abbrev S11008x4096 : Shape := ⟨2, ![11008, 4096]⟩
abbrev S16384x4096 : Shape := ⟨2, ![16384, 4096]⟩
abbrev S2x1x24576 : Shape := ⟨3, ![2, 1, 24576]⟩
abbrev S1024x11008 : Shape := ⟨2, ![1024, 11008]⟩
abbrev S11008x256 : Shape := ⟨2, ![11008, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S2x1x24576, .f32⟩
  | .hbm, ⟨4, _⟩ => ⟨S11008x4096, .bf16⟩
  | .hbm, ⟨5, _⟩ => ⟨S16384x4096, .f32⟩
  | .local _ .vmem, ⟨0, _⟩ => ⟨S1024x11008, .bf16⟩
  | .local _ .vmem, ⟨1, _⟩ => ⟨S11008x256, .bf16⟩
  | .local _ .vmem, ⟨2, _⟩ => ⟨S11008x256, .bf16⟩
  | .local _ .vmem, ⟨3, _⟩ => ⟨S1024x256, .f32⟩
  | .local _ .vmem, ⟨4, _⟩ => ⟨S1024x256, .f32⟩
  | .local _ .vmem, ⟨5, _⟩ => ⟨S1x1x256, .f32⟩
  | .local _ .vmem, ⟨6, _⟩ => ⟨S1x1x256, .f32⟩
  | .local _ .vmem, ⟨7, _⟩ => ⟨S1024x256, .f32⟩
  | .local _ .vmem, ⟨8, _⟩ => ⟨S1024x256, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c80_i32 : BitVec 32 := 80#32
  let v17 : BitVec 32 := Scalar.addi c80_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x11008 : Shape := ⟨2, ![16384, 11008]⟩
abbrev S11008x4096 : Shape := ⟨2, ![11008, 4096]⟩
abbrev S16384x4096 : Shape := ⟨2, ![16384, 4096]⟩
abbrev S2x1x24576 : Shape := ⟨3, ![2, 1, 24576]⟩
abbrev S2x1x4096 : Shape := ⟨3, ![2, 1, 4096]⟩
abbrev S2x8192x11008 : Shape := ⟨3, ![2, 8192, 11008]⟩
abbrev S2x8192x4096 : Shape := ⟨3, ![2, 8192, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S2x1x24576, .f32⟩
  | .hbm, ⟨4, _⟩ => ⟨S2x1x4096, .f32⟩
  | .hbm, ⟨5, _⟩ => ⟨S2x1x4096, .f32⟩
  | .hbm, ⟨6, _⟩ => ⟨S2x1x4096, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S16384x11008, .f32⟩
  | .hbm, ⟨11, _⟩ => ⟨S2x8192x11008, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel4.lean ====
abbrev S16384x4096 : Shape := ⟨2, ![16384, 4096]⟩
abbrev S4096x4096 : Shape := ⟨2, ![4096, 4096]⟩
abbrev S2x1x24576 : Shape := ⟨3, ![2, 1, 24576]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S2x1x24576, .f32⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1x1x512, .f32⟩
  | .local _ .vmem, ⟨6, _⟩ => ⟨S1x1x512, .f32⟩
  | .local _ .vmem, ⟨7, _⟩ => ⟨S1024x512, .f32⟩
  | .local _ .vmem, ⟨8, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x4096 : Shape := ⟨2, ![16384, 4096]⟩
abbrev S4096x4096 : Shape := ⟨2, ![4096, 4096]⟩
abbrev S2x1x24576 : Shape := ⟨3, ![2, 1, 24576]⟩
abbrev S2x1x4096 : Shape := ⟨3, ![2, 1, 4096]⟩
abbrev S2x8192x4096 : Shape := ⟨3, ![2, 8192, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S2x1x24576, .f32⟩
  | .hbm, ⟨4, _⟩ => ⟨S2x1x4096, .f32⟩
  | .hbm, ⟨5, _⟩ => ⟨S2x1x4096, .f32⟩
  | .hbm, ⟨6, _⟩ => ⟨S2x1x4096, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S16384x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S16384x2048 : Shape := ⟨2, ![16384, 2048]⟩
abbrev S16384x1024 : Shape := ⟨2, ![16384, 1024]⟩
abbrev S16384x12288 : Shape := ⟨2, ![16384, 12288]⟩
abbrev S4096x4096 : Shape := ⟨2, ![4096, 4096]⟩
abbrev S2048x4096 : Shape := ⟨2, ![2048, 4096]⟩
abbrev S1024x4096 : Shape := ⟨2, ![1024, 4096]⟩
abbrev S16384x4096 : Shape := ⟨2, ![16384, 4096]⟩
abbrev S1024x2048 : Shape := ⟨2, ![1024, 2048]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 10
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4096x4096, .f32⟩
  | .hbm, ⟨5, _⟩ => ⟨S4096x4096, .bf16⟩
  | .hbm, ⟨6, _⟩ => ⟨S2048x4096, .bf16⟩
  | .hbm, ⟨7, _⟩ => ⟨S1024x4096, .bf16⟩
  | .hbm, ⟨8, _⟩ => ⟨S1024x4096, .bf16⟩
  | .hbm, ⟨9, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16384x2048 : Shape := ⟨2, ![16384, 2048]⟩
abbrev S16384x1024 : Shape := ⟨2, ![16384, 1024]⟩
abbrev S16384x12288 : Shape := ⟨2, ![16384, 12288]⟩
abbrev S4096x4096 : Shape := ⟨2, ![4096, 4096]⟩
abbrev S2048x4096 : Shape := ⟨2, ![2048, 4096]⟩
abbrev S16384x4096 : Shape := ⟨2, ![16384, 4096]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4096x4096, .f32⟩
  | .hbm, ⟨5, _⟩ => ⟨S16384x2048, .f32⟩
  | .hbm, ⟨6, _⟩ => ⟨S16384x1024, .f32⟩
  | .hbm, ⟨7, _⟩ => ⟨S16384x1024, .f32⟩
  | .hbm, ⟨8, _⟩ => ⟨S16384x12288, .f32⟩
  | .hbm, ⟨9, _⟩ => ⟨S2048x4096, .f32⟩
  | .hbm, ⟨10, _⟩ => ⟨S16384x4096, .f32⟩
  | .hbm, ⟨11, _⟩ => ⟨S1024x4096, .f32⟩
  | .hbm, ⟨12, _⟩ => ⟨S16384x4096, .f32⟩
  | .hbm, ⟨13, _⟩ => ⟨S1024x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel6.lean ====
abbrev S16384x4096 : Shape := ⟨2, ![16384, 4096]⟩
abbrev S4096x26880 : Shape := ⟨2, ![4096, 26880]⟩
abbrev S4096x10240 : Shape := ⟨2, ![4096, 10240]⟩
abbrev S16384x10240 : Shape := ⟨2, ![16384, 10240]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x26880, .f32⟩
  | .hbm, ⟨2, _⟩ => ⟨S4096x10240, .f32⟩
  | .hbm, ⟨3, _⟩ => ⟨S4096x10240, .bf16⟩
  | .hbm, ⟨4, _⟩ => ⟨S16384x10240, .f32⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x4096 : Shape := ⟨2, ![16384, 4096]⟩
abbrev S4096x26880 : Shape := ⟨2, ![4096, 26880]⟩
abbrev S4096x10240 : Shape := ⟨2, ![4096, 10240]⟩
abbrev S16384x10240 : Shape := ⟨2, ![16384, 10240]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x26880, .f32⟩
  | .hbm, ⟨2, _⟩ => ⟨S16384x4096, .f32⟩
  | .hbm, ⟨3, _⟩ => ⟨S4096x10240, .f32⟩
  | .hbm, ⟨4, _⟩ => ⟨S16384x10240, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S16384x4096 : Shape := ⟨2, ![16384, 4096]⟩
abbrev S4096x26880 : Shape := ⟨2, ![4096, 26880]⟩
abbrev S_ : Shape := ⟨0, ![]⟩
abbrev S1024 : Shape := ⟨1, ![1024]⟩
abbrev S2048 : Shape := ⟨1, ![2048]⟩
abbrev S3072 : Shape := ⟨1, ![3072]⟩
abbrev S1x3072 : Shape := ⟨2, ![1, 3072]⟩
abbrev S4096x3072 : Shape := ⟨2, ![4096, 3072]⟩
abbrev S16384x3072 : Shape := ⟨2, ![16384, 3072]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x26880, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S2048, .f32⟩
  | .hbm, ⟨6, _⟩ => ⟨S3072, .f32⟩
  | .hbm, ⟨7, _⟩ => ⟨S1x3072, .f32⟩
  | .hbm, ⟨8, _⟩ => ⟨S4096x3072, .f32⟩
  | .hbm, ⟨9, _⟩ => ⟨S4096x3072, .bf16⟩
  | .hbm, ⟨10, _⟩ => ⟨S16384x3072, .bf16⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x4096 : Shape := ⟨2, ![16384, 4096]⟩
abbrev S4096x26880 : Shape := ⟨2, ![4096, 26880]⟩
abbrev S4096x3072 : Shape := ⟨2, ![4096, 3072]⟩
abbrev S16384x3072 : Shape := ⟨2, ![16384, 3072]⟩
abbrev S16384x1024 : Shape := ⟨2, ![16384, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x26880, .f32⟩
  | .hbm, ⟨2, _⟩ => ⟨S16384x4096, .f32⟩
  | .hbm, ⟨3, _⟩ => ⟨S4096x3072, .f32⟩
  | .hbm, ⟨4, _⟩ => ⟨S16384x3072, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x3072, .f32⟩
  | .hbm, ⟨12, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S16384x4096 : Shape := ⟨2, ![16384, 4096]⟩
abbrev S4096x26880 : Shape := ⟨2, ![4096, 26880]⟩
abbrev S4096x12288 : Shape := ⟨2, ![4096, 12288]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x26880, .f32⟩
  | .hbm, ⟨2, _⟩ => ⟨S4096x12288, .f32⟩
  | .hbm, ⟨3, _⟩ => ⟨S4096x12288, .bf16⟩
  | .hbm, ⟨4, _⟩ => ⟨S16384x12288, .bf16⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x4096 : Shape := ⟨2, ![16384, 4096]⟩
abbrev S4096x26880 : Shape := ⟨2, ![4096, 26880]⟩
abbrev S4096x12288 : Shape := ⟨2, ![4096, 12288]⟩
abbrev S16384x12288 : Shape := ⟨2, ![16384, 12288]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x26880, .f32⟩
  | .hbm, ⟨2, _⟩ => ⟨S16384x4096, .f32⟩
  | .hbm, ⟨3, _⟩ => ⟨S4096x12288, .f32⟩
  | .hbm, ⟨4, _⟩ => ⟨S16384x12288, .f32⟩
  | .hbm, ⟨5, _⟩ => ⟨S16384x12288, .f32⟩
  | .hbm, ⟨6, _⟩ => ⟨S16384x12288, .f32⟩
  | .hbm, ⟨7, _⟩ => ⟨S_, .f32⟩
  | .hbm, ⟨8, _⟩ => ⟨S16384x12288, .f32⟩
  | .hbm, ⟨9, _⟩ => ⟨S16384x12288, .f32⟩
  | .hbm, ⟨10, _⟩ => ⟨S_, .f32⟩
  | .hbm, ⟨11, _⟩ => ⟨S16384x12288, .f32⟩
  | .hbm, ⟨12, _⟩ => ⟨S16384x12288, .f32⟩
  | .hbm, ⟨13, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel9.lean ====
abbrev S16384x4096 : Shape := ⟨2, ![16384, 4096]⟩
abbrev S4096x26880 : Shape := ⟨2, ![4096, 26880]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1024 : Shape := ⟨1, ![1024]⟩
abbrev S256 : Shape := ⟨1, ![256]⟩
abbrev S1280 : Shape := ⟨1, ![1280]⟩
abbrev S1x1280 : Shape := ⟨2, ![1, 1280]⟩
abbrev S4096x1280 : Shape := ⟨2, ![4096, 1280]⟩
abbrev S16384x1280 : Shape := ⟨2, ![16384, 1280]⟩
abbrev S1024x4096 : Shape := ⟨2, ![1024, 4096]⟩
abbrev S1024x128 : Shape := ⟨2, ![1024, 128]⟩
abbrev S1024x1280 : Shape := ⟨2, ![1024, 1280]⟩
abbrev S1x128 : Shape := ⟨2, ![1, 128]⟩

abbrev nBuf : Space → Nat
  | .hbm => 100
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S4096x26880, .f32⟩
  | .hbm, ⟨2, _⟩ => ⟨S8192, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192, .f32⟩
  | .hbm, ⟨36, _⟩ => ⟨S8192x1, .f32⟩
  | .hbm, ⟨37, _⟩ => ⟨S1x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S_, .i1⟩
  | .hbm, ⟨57, _⟩ => ⟨S8192, .i1⟩
  | .hbm, ⟨58, _⟩ => ⟨S8192, .i1⟩
  | .hbm, ⟨59, _⟩ => ⟨S8192, .i1⟩
  | .hbm, ⟨60, _⟩ => ⟨S8192, .i32⟩
  | .hbm, ⟨61, _⟩ => ⟨S8192, .i32⟩
  | .hbm, ⟨62, _⟩ => ⟨S8192, .i32⟩
  | .hbm, ⟨63, _⟩ => ⟨S8192, .f32⟩
  | .hbm, ⟨64, _⟩ => ⟨S8192x1, .f32⟩
  | .hbm, ⟨65, _⟩ => ⟨S1x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x32, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x32, .f32⟩
  | .hbm, ⟨76, _⟩ => ⟨S8192x16, .f32⟩
  | .hbm, ⟨77, _⟩ => ⟨S8192x16, .f32⟩
  | .hbm, ⟨78, _⟩ => ⟨S8192x32, .f32⟩
  | .hbm, ⟨79, _⟩ => ⟨S8192x16, .f32⟩
  | .hbm, ⟨80, _⟩ => ⟨S8192x16, .f32⟩
  | .hbm, ⟨81, _⟩ => ⟨S8192x16, .f32⟩
  | .hbm, ⟨82, _⟩ => ⟨S8192x32, .f32⟩
  | .hbm, ⟨83, _⟩ => ⟨S8192x64, .f32⟩
  | .hbm, ⟨84, _⟩ => ⟨S8192x64, .f32⟩
  | .hbm, ⟨85, _⟩ => ⟨S1x8192x1x64, .f32⟩
  | .hbm, ⟨86, _⟩ => ⟨S1x8192x2x64, .f32⟩
  | .hbm, ⟨87, _⟩ => ⟨S8192x128, .f32⟩
  | .hbm, ⟨88, _⟩ => ⟨S1x8192x1x64, .f32⟩
  | .hbm, ⟨89, _⟩ => ⟨S1x8192x2x64, .f32⟩
  | .hbm, ⟨90, _⟩ => ⟨S8192x128, .f32⟩
  | .hbm, ⟨91, _⟩ => ⟨S_, .f32⟩
  | .hbm, ⟨92, _⟩ => ⟨S1024, .f32⟩
  | .hbm, ⟨93, _⟩ => ⟨S_, .f32⟩
  | .hbm, ⟨94, _⟩ => ⟨S256, .f32⟩
  | .hbm, ⟨95, _⟩ => ⟨S1280, .f32⟩
  | .hbm, ⟨96, _⟩ => ⟨S1x1280, .f32⟩
  | .hbm, ⟨97, _⟩ => ⟨S4096x1280, .f32⟩
  | .hbm, ⟨98, _⟩ => ⟨S4096x1280, .bf16⟩
  | .hbm, ⟨99, _⟩ => ⟨S16384x1280, .bf16⟩
  | .local _ .vmem, ⟨0, _⟩ => ⟨S1024x4096, .bf16⟩
  | .local _ .vmem, ⟨1, _⟩ => ⟨S4096x1280, .bf16⟩
  | .local _ .vmem, ⟨2, _⟩ => ⟨S1x1280, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1280, .bf16⟩
  | .local _ .vmem, ⟨8, _⟩ => ⟨S1024x1280, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_4 : Ref sig .tc := ⟨.hbm, 91, rfl⟩
abbrev main_v47 : Ref sig .tc := ⟨.hbm, 92, rfl⟩
abbrev main_cst_5 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S16384x4096 : Shape := ⟨2, ![16384, 4096]⟩
abbrev S4096x26880 : Shape := ⟨2, ![4096, 26880]⟩
abbrev S4096x1280 : Shape := ⟨2, ![4096, 1280]⟩
abbrev S16384x1280 : Shape := ⟨2, ![16384, 1280]⟩
abbrev S16384x1024 : Shape := ⟨2, ![16384, 1024]⟩
abbrev S16384x128 : Shape := ⟨2, ![16384, 128]⟩
abbrev S2x8192x16x64 : Shape := ⟨4, ![2, 8192, 16, 64]⟩
abbrev S2x16x8192x64 : Shape := ⟨4, ![2, 16, 8192, 64]⟩
abbrev S8192 : Shape := ⟨1, ![8192]⟩
abbrev S_ : Shape := ⟨0, ![]⟩
abbrev S16 : Shape := ⟨1, ![16]⟩
abbrev S2x16x8192x32 : Shape := ⟨4, ![2, 16, 8192, 32]⟩
abbrev S8192x1 : Shape := ⟨2, ![8192, 1]⟩
abbrev S1x16 : Shape := ⟨2, ![1, 16]⟩
abbrev S8192x16 : Shape := ⟨2, ![8192, 16]⟩
abbrev S2x16x8192x16 : Shape := ⟨4, ![2, 16, 8192, 16]⟩
abbrev S1x1x8192x16 : Shape := ⟨4, ![1, 1, 8192, 16]⟩
abbrev S2x8192x2x64 : Shape := ⟨4, ![2, 8192, 2, 64]⟩
abbrev S2x2x8192x64 : Shape := ⟨4, ![2, 2, 8192, 64]⟩
abbrev S2x2x8192x32 : Shape := ⟨4, ![2, 2, 8192, 32]⟩
abbrev S2x2x8192x16 : Shape := ⟨4, ![2, 2, 8192, 16]⟩

abbrev nBuf : Space → Nat
  | .hbm => 237
  | .vmem => 0
  | .smem => 0
  | _ => 0

abbrev hbmTy0_0 (i : Nat) : BufTy := match i % 128 with
  | 0 => ⟨S16384x4096, .bf16⟩
  | 1 => ⟨S4096x26880, .f32⟩
  | 2 => ⟨S16384x4096, .f32⟩
  | 3 => ⟨S4096x1280, .f32⟩
  | 4 => ⟨S16384x1280, .f32⟩
  | 5 => ⟨S16384x1024, .f32⟩
  | 6 => ⟨S16384x128, .f32⟩
  | 7 => ⟨S16384x128, .f32⟩
  | 8 => ⟨S2x8192x16x64, .f32⟩
  | 9 => ⟨S2x16x8192x64, .f32⟩
  | 10 => ⟨S8192, .i32⟩
  | 11 => ⟨S_, .i32⟩
  | 12 => ⟨S_, .i32⟩
  | 13 => ⟨S8192, .i32⟩
  | 14 => ⟨S8192, .i32⟩
  | 15 => ⟨S8192, .i32⟩
  | 16 => ⟨S_, .i32⟩
  | 17 => ⟨S8192, .i32⟩
  | 18 => ⟨S8192, .i1⟩
  | 19 => ⟨S8192, .i32⟩
  | 20 => ⟨S8192, .i32⟩
  | 21 => ⟨S_, .i32⟩
  | 22 => ⟨S8192, .i32⟩
  | 23 => ⟨S8192, .i1⟩
  | 24 => ⟨S8192, .i1⟩
  | 25 => ⟨S_, .i32⟩
  | 26 => ⟨S8192, .i32⟩
  | 27 => ⟨S8192, .i32⟩
  | 28 => ⟨S8192, .i32⟩
  | 29 => ⟨S8192, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i1⟩
  | 44 => ⟨S_, .i32⟩
  | 45 => ⟨S_, .i1⟩
  | 46 => ⟨S8192, .i1⟩
  | 47 => ⟨S8192, .i1⟩
  | 48 => ⟨S8192, .i1⟩
  | 49 => ⟨S8192, .i32⟩
  | 50 => ⟨S8192, .i32⟩
  | 51 => ⟨S8192, .i32⟩
  | 52 => ⟨S8192, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S2x16x8192x32, .f32⟩
  | 68 => ⟨S8192x1, .f32⟩
  | 69 => ⟨S1x16, .f32⟩
  | 70 => ⟨S8192x16, .f32⟩
  | 71 => ⟨S8192x16, .f32⟩
  | 72 => ⟨S8192x16, .f32⟩
  | 73 => ⟨S8192x16, .f32⟩
  | 74 => ⟨S8192x16, .f32⟩
  | 75 => ⟨S2x16x8192x16, .f32⟩
  | 76 => ⟨S2x16x8192x16, .f32⟩
  | 77 => ⟨S1x1x8192x16, .f32⟩
  | 78 => ⟨S2x16x8192x16, .f32⟩
  | 79 => ⟨S2x16x8192x16, .f32⟩
  | 80 => ⟨S1x1x8192x16, .f32⟩
  | 81 => ⟨S2x16x8192x16, .f32⟩
  | 82 => ⟨S2x16x8192x16, .f32⟩
  | 83 => ⟨S2x16x8192x16, .f32⟩
  | 84 => ⟨S1x1x8192x16, .f32⟩
  | 85 => ⟨S2x16x8192x16, .f32⟩
  | 86 => ⟨S2x16x8192x16, .f32⟩
  | 87 => ⟨S1x1x8192x16, .f32⟩
  | 88 => ⟨S2x16x8192x16, .f32⟩
  | 89 => ⟨S2x16x8192x16, .f32⟩
  | 90 => ⟨S2x16x8192x16, .f32⟩
  | 91 => ⟨S2x16x8192x32, .f32⟩
  | 92 => ⟨S2x16x8192x32, .f32⟩
  | 93 => ⟨S8192x1, .f32⟩
  | 94 => ⟨S1x16, .f32⟩
  | 95 => ⟨S8192x16, .f32⟩
  | 96 => ⟨S8192x16, .f32⟩
  | 97 => ⟨S8192x16, .f32⟩
  | 98 => ⟨S8192x16, .f32⟩
  | 99 => ⟨S8192x16, .f32⟩
  | 100 => ⟨S2x16x8192x16, .f32⟩
  | 101 => ⟨S2x16x8192x16, .f32⟩
  | 102 => ⟨S1x1x8192x16, .f32⟩
  | 103 => ⟨S2x16x8192x16, .f32⟩
  | 104 => ⟨S2x16x8192x16, .f32⟩
  | 105 => ⟨S1x1x8192x16, .f32⟩
  | 106 => ⟨S2x16x8192x16, .f32⟩
  | 107 => ⟨S2x16x8192x16, .f32⟩
  | 108 => ⟨S2x16x8192x16, .f32⟩
  | 109 => ⟨S1x1x8192x16, .f32⟩
  | 110 => ⟨S2x16x8192x16, .f32⟩
  | 111 => ⟨S2x16x8192x16, .f32⟩
  | 112 => ⟨S1x1x8192x16, .f32⟩
  | 113 => ⟨S2x16x8192x16, .f32⟩
  | 114 => ⟨S2x16x8192x16, .f32⟩
  | 115 => ⟨S2x16x8192x16, .f32⟩
  | 116 => ⟨S2x16x8192x32, .f32⟩
  | 117 => ⟨S2x16x8192x64, .f32⟩
  | 118 => ⟨S_, .f32⟩
  | 119 => ⟨S2x16x8192x64, .f32⟩
  | 120 => ⟨S2x16x8192x64, .f32⟩
  | 121 => ⟨S2x8192x2x64, .f32⟩
  | 122 => ⟨S2x2x8192x64, .f32⟩
  | 123 => ⟨S8192, .i32⟩
  | 124 => ⟨S_, .i32⟩
  | 125 => ⟨S_, .i32⟩
  | 126 => ⟨S8192, .i32⟩
  | 127 => ⟨S8192, .i32⟩
  | _ => ⟨S16384x4096, .bf16⟩

abbrev hbmTy0_1 (i : Nat) : BufTy := match i % 128 with
  | 0 => ⟨S8192, .i32⟩
  | 1 => ⟨S_, .i32⟩
  | 2 => ⟨S8192, .i32⟩
  | 3 => ⟨S8192, .i1⟩
  | 4 => ⟨S8192, .i32⟩
  | 5 => ⟨S8192, .i32⟩
  | 6 => ⟨S_, .i32⟩
  | 7 => ⟨S8192, .i32⟩
  | 8 => ⟨S8192, .i1⟩
  | 9 => ⟨S8192, .i1⟩
  | 10 => ⟨S_, .i32⟩
  | 11 => ⟨S8192, .i32⟩
  | 12 => ⟨S8192, .i32⟩
  | 13 => ⟨S8192, .i32⟩
  | 14 => ⟨S8192, .f32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i1⟩
  | 29 => ⟨S_, .i32⟩
  | 30 => ⟨S_, .i1⟩
  | 31 => ⟨S8192, .i1⟩
  | 32 => ⟨S8192, .i1⟩
  | 33 => ⟨S8192, .i1⟩
  | 34 => ⟨S8192, .i32⟩
  | 35 => ⟨S8192, .i32⟩
  | 36 => ⟨S8192, .i32⟩
  | 37 => ⟨S8192, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S2x2x8192x32, .f32⟩
  | 53 => ⟨S8192x1, .f32⟩
  | 54 => ⟨S1x16, .f32⟩
  | 55 => ⟨S8192x16, .f32⟩
  | 56 => ⟨S8192x16, .f32⟩
  | 57 => ⟨S8192x16, .f32⟩
  | 58 => ⟨S8192x16, .f32⟩
  | 59 => ⟨S8192x16, .f32⟩
  | 60 => ⟨S2x2x8192x16, .f32⟩
  | 61 => ⟨S2x2x8192x16, .f32⟩
  | 62 => ⟨S1x1x8192x16, .f32⟩
  | 63 => ⟨S2x2x8192x16, .f32⟩
  | 64 => ⟨S2x2x8192x16, .f32⟩
  | 65 => ⟨S1x1x8192x16, .f32⟩
  | 66 => ⟨S2x2x8192x16, .f32⟩
  | 67 => ⟨S2x2x8192x16, .f32⟩
  | 68 => ⟨S2x2x8192x16, .f32⟩
  | 69 => ⟨S1x1x8192x16, .f32⟩
  | 70 => ⟨S2x2x8192x16, .f32⟩
  | 71 => ⟨S2x2x8192x16, .f32⟩
  | 72 => ⟨S1x1x8192x16, .f32⟩
  | 73 => ⟨S2x2x8192x16, .f32⟩
  | 74 => ⟨S2x2x8192x16, .f32⟩
  | 75 => ⟨S2x2x8192x16, .f32⟩
  | 76 => ⟨S2x2x8192x32, .f32⟩
  | 77 => ⟨S2x2x8192x32, .f32⟩
  | 78 => ⟨S8192x1, .f32⟩
  | 79 => ⟨S1x16, .f32⟩
  | 80 => ⟨S8192x16, .f32⟩
  | 81 => ⟨S8192x16, .f32⟩
  | 82 => ⟨S8192x16, .f32⟩
  | 83 => ⟨S8192x16, .f32⟩
  | 84 => ⟨S8192x16, .f32⟩
  | 85 => ⟨S2x2x8192x16, .f32⟩
  | 86 => ⟨S2x2x8192x16, .f32⟩
  | 87 => ⟨S1x1x8192x16, .f32⟩
  | 88 => ⟨S2x2x8192x16, .f32⟩
  | 89 => ⟨S2x2x8192x16, .f32⟩
  | 90 => ⟨S1x1x8192x16, .f32⟩
  | 91 => ⟨S2x2x8192x16, .f32⟩
  | 92 => ⟨S2x2x8192x16, .f32⟩
  | 93 => ⟨S2x2x8192x16, .f32⟩
  | 94 => ⟨S1x1x8192x16, .f32⟩
  | 95 => ⟨S2x2x8192x16, .f32⟩
  | 96 => ⟨S2x2x8192x16, .f32⟩
  | 97 => ⟨S1x1x8192x16, .f32⟩
  | 98 => ⟨S2x2x8192x16, .f32⟩
  | 99 => ⟨S2x2x8192x16, .f32⟩
  | 100 => ⟨S2x2x8192x16, .f32⟩
  | 101 => ⟨S2x2x8192x32, .f32⟩
  | 102 => ⟨S2x2x8192x64, .f32⟩
  | 103 => ⟨S2x8192x16x64, .f32⟩
  | 104 => ⟨S16384x1024, .f32⟩
  | 105 => ⟨S2x8192x2x64, .f32⟩
  | 106 => ⟨S16384x128, .f32⟩
  | 107 => ⟨S16384x1280, .f32⟩
  | 108 => ⟨S16384x1280, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst : Ref sig .tc := ⟨.hbm, 54, rfl⟩
abbrev main_v14 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_2 : Ref sig .tc := ⟨.hbm, 61, rfl⟩
abbrev main_v19 : Ref sig .tc := ⟨.hbm, 62, rfl⟩
abbrev main_v20 : Ref sig .tc := ⟨.hbm, 63, rfl⟩
abbrev main_cst_3 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_4 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_5 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_c : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_0 : Ref sig .tc := ⟨.hbm, 138, rfl⟩
abbrev main_call2_v12 : Ref sig .tc := ⟨.hbm, 139, rfl⟩
abbrev main_call2_v13 : Ref sig .tc := ⟨.hbm, 140, rfl⟩
abbrev main_v79 : Ref sig .tc := ⟨.hbm, 141, rfl⟩
abbrev main_v80 : Ref sig .tc := ⟨.hbm, 142, rfl⟩
abbrev main_c_6 : Ref sig .tc := ⟨.hbm, 143, rfl⟩
abbrev main_call3_v0 : Ref sig .tc := ⟨.hbm, 144, rfl⟩
abbrev main_call3_c : Ref sig .tc := ⟨.hbm, 145, rfl⟩
abbrev main_call3_v1 : Ref sig .tc := ⟨.hbm, 146, rfl⟩
abbrev main_call3_c_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_c_1 : Ref sig .tc := ⟨.hbm, 151, rfl⟩
abbrev main_call3_v5 : Ref sig .tc := ⟨.hbm, 152, rfl⟩
abbrev main_call3_v6 : Ref sig .tc := ⟨.hbm, 153, rfl⟩
abbrev main_call3_c_2 : Ref sig .tc := ⟨.hbm, 154, rfl⟩
abbrev main_call3_v7 : Ref sig .tc := ⟨.hbm, 155, rfl⟩
abbrev main_call3_v8 : Ref sig .tc := ⟨.hbm, 156, rfl⟩
abbrev main_call3_c_3 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_v12 : Ref sig .tc := ⟨.hbm, 161, rfl⟩
abbrev main_call3_v13 : Ref sig .tc := ⟨.hbm, 162, rfl⟩
abbrev main_call3_v14 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_cst_7 : Ref sig .tc := ⟨.hbm, 167, rfl⟩
abbrev main_v84 : Ref sig .tc := ⟨.hbm, 168, rfl⟩
abbrev main_v85 : Ref sig .tc := ⟨.hbm, 169, rfl⟩
abbrev main_cst_8 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_cst_9 : Ref sig .tc := ⟨.hbm, 174, rfl⟩
abbrev main_v89 : Ref sig .tc := ⟨.hbm, 175, rfl⟩
abbrev main_v90 : Ref sig .tc := ⟨.hbm, 176, rfl⟩
abbrev main_cst_10 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩

abbrev nD : Nat := 1
abbrev τ : Topo := Topo.v7x

variable {F : FTy → Type} [FloatOps F]
-- ==== Kernel10.lean ====
abbrev S16384x4096 : Shape := ⟨2, ![16384, 4096]⟩
abbrev S4096 : Shape := ⟨1, ![4096]⟩
abbrev S2x1x24576 : Shape := ⟨3, ![2, 1, 24576]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S2x1x24576, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16384x4096 : Shape := ⟨2, ![16384, 4096]⟩
abbrev S4096 : Shape := ⟨1, ![4096]⟩
abbrev S2x1x24576 : Shape := ⟨3, ![2, 1, 24576]⟩
abbrev S2x1x4096 : Shape := ⟨3, ![2, 1, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S2x1x24576, .f32⟩
  | .hbm, ⟨3, _⟩ => ⟨S2x1x4096, .f32⟩
  | .hbm, ⟨4, _⟩ => ⟨S2x1x4096, .f32⟩
  | .hbm, ⟨5, _⟩ => ⟨S2x1x4096, .f32⟩
  | .hbm, ⟨6, _⟩ => ⟨S2x1x4096, .f32⟩
  | .hbm, ⟨7, _⟩ => ⟨S2x1x4096, .f32⟩
  | .hbm, ⟨8, _⟩ => ⟨S2x1x4096, .f32⟩
  | .hbm, ⟨9, _⟩ => ⟨S2x8192x4096, .f32⟩
  | .hbm, ⟨10, _⟩ => ⟨S2x8192x4096, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x4096, .f32⟩
  | .hbm, ⟨22, _⟩ => ⟨S2x8192x4096, .f32⟩
  | .hbm, ⟨23, _⟩ => ⟨S1x1x4096, .f32⟩
  | .hbm, ⟨24, _⟩ => ⟨S2x8192x4096, .f32⟩
  | .hbm, ⟨25, _⟩ => ⟨S2x8192x4096, .f32⟩
  | .hbm, ⟨26, _⟩ => ⟨S_, .f32⟩
  | .hbm, ⟨27, _⟩ => ⟨S2x1x4096, .f32⟩
  | .hbm, ⟨28, _⟩ => ⟨S2x1x4096, .f32⟩
  | .hbm, ⟨29, _⟩ => ⟨S2x8192x4096, .f32⟩
  | .hbm, ⟨30, _⟩ => ⟨S2x8192x4096, .f32⟩
  | .hbm, ⟨31, _⟩ => ⟨S2x8192x4096, .f32⟩
  | .hbm, ⟨32, _⟩ => ⟨S2x8192x4096, .f32⟩
  | .hbm, ⟨33, _⟩ => ⟨S16384x4096, .f32⟩
  | .hbm, ⟨34, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel11.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S2x8192x4096 : Shape := ⟨3, ![2, 8192, 4096]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .hbm, ⟨4, _⟩ => ⟨S2x8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S16384x4096 : Shape := ⟨2, ![16384, 4096]⟩
abbrev S4096 : Shape := ⟨1, ![4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S2x8192x4096, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 40
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | .hbm, ⟨20, _⟩ => ⟨S8x4096, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096, .f32⟩
  | .hbm, ⟨29, _⟩ => ⟨S1x4096x24576, .f32⟩
  | .hbm, ⟨30, _⟩ => ⟨S4096x24576, .f32⟩
  | .hbm, ⟨31, _⟩ => ⟨S8x24576, .f32⟩
  | .hbm, ⟨32, _⟩ => ⟨S1x24576, .f32⟩
  | .hbm, ⟨33, _⟩ => ⟨S24576, .f32⟩
  | .hbm, ⟨34, _⟩ => ⟨S1x24576, .f32⟩
  | .hbm, ⟨35, _⟩ => ⟨S8x24576, .f32⟩
  | .hbm, ⟨36, _⟩ => ⟨S8x24576, .f32⟩
  | .hbm, ⟨37, _⟩ => ⟨S1x8x24576, .f32⟩
  | .hbm, ⟨38, _⟩ => ⟨S1x8x24576, .f32⟩
  | .hbm, ⟨39, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.FfnDown.lean ====
/- The feed-forward down call with its gated residual: its output array is the reference's term. -/
module

public import proofs.«01_k».proof.Proof.Gen.Kernel3Ideal.Frame
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDown

open Cert.Kernel3Ideal Cert.Kernel3Ideal.Gen

variable (m : (ℓ : Loc nD τ sig) → Buf (Elt Ideal) ℓ)

/-- The block each window takes at a grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val / 8, 0, 80 + (grid0.coords t 1).val]
    ∧ win0_4.index t = ![(grid0.coords t 0).val, (grid0.coords t 1).val] :=
  (by decide +kernel : ∀ t : Fin grid0.N, _)

/-- The host's array of weights is the argument. -/
theorem weights (c : Dev nD) : V m c main_v0 = m ((c : Thread nD τ).loc main_arg1) := by
  entry_read
  rfl

/-- The block of activations at a grid point. -/
abbrev aB (c : Dev nD) (t : Fin cfg0.N) : FVec Ideal S1024x11008 .bf16 := iblk m c 0 t
/-- The block of weights at a grid point. -/
abbrev wB (c : Dev nD) (t : Fin cfg0.N) : FVec Ideal S11008x256 .bf16 := iblk m c 1 t
/-- The block of the residual at a grid point. -/
abbrev xB (c : Dev nD) (t : Fin cfg0.N) : FVec Ideal S1024x256 .f32 := iblk m c 2 t
/-- The block of the gate at a grid point. -/
abbrev gB (c : Dev nD) (t : Fin cfg0.N) : FVec Ideal S1x1x256 .f32 := iblk m c 3 t

/-- One element of a tile, from the blocks: the residual plus the gate times the dot product. -/
theorem tile (A : FVec Ideal S1024x11008 .bf16) (B : FVec Ideal S11008x256 .bf16) (X : FVec Ideal S1024x256 .f32) (G : FVec Ideal S1x1x256 .f32)
    (y : S1024x256.Idx) (d x g : EReal) (hd : (∑ k : Fin 11008, A (ix2 (y 0) k) * B (ix2 k (y 1))) = d) (hx : X y = x)
    (hg : G (ix3 0 0 (y 1)) = g) : (k0_pay1 (F := Ideal) A B X G y : EReal) = x + g * d := by
  pointwise [k0_pay1]
  rw [hd, hx, hg]

/-- The dot product of a tile is the reference's at the tile's place. -/
theorem dot (c : Dev nD) (t : Fin cfg0.N) (y : S1024x256.Idx) :
    (∑ k : Fin 11008, aB m c t (ix2 (y 0) k) * wB m c t (ix2 k (y 1)))
      = Reference3Ideal.Read.val_main_v8 (F := Ideal) (m ((c : Thread nD τ).loc main_arg0)) (m ((c : Thread nD τ).loc main_arg1)) (Reference3Ideal.Read.idx_main_v13 (((cfg0.win 4).blk t).view.emb y)) := by
  have b0 : (grid0.coords t 0).val < 16 := (grid0.coords t 0).isLt
  have b1 : (grid0.coords t 1).val < 16 := (grid0.coords t 1).isLt
  rw [Reference3Ideal.Read.val_main_v8_apply]
  refine Finset.sum_congr rfl fun k _ => ?_
  rw [Reference3Ideal.Read.val_main_v7_apply, Reference3Ideal.Read.val_main_v6_apply, ← weights m c]
  blk_simp [iblk, aB, wB]
  congr 1
  · blk_ext [idx t] <;> omega
  · blk_ext [idx t] <;> omega

/-- The residual of a tile is the reference's at the tile's place. -/
theorem res (c : Dev nD) (t : Fin cfg0.N) (y : S1024x256.Idx) :
    xB m c t y = Reference3Ideal.Read.val_main_v9 (F := Ideal) (m ((c : Thread nD τ).loc main_arg2)) (Reference3Ideal.Read.idx_main_v13 (((cfg0.win 4).blk t).view.emb y)) := by
  have b0 : (grid0.coords t 0).val < 16 := (grid0.coords t 0).isLt
  have b1 : (grid0.coords t 1).val < 16 := (grid0.coords t 1).isLt
  rw [Reference3Ideal.Read.val_main_v9_apply]
  blk_simp [iblk, xB]
  blk_ext [idx t] <;> omega

/-- The gate of a tile is the reference's at the tile's place. -/
theorem gate (c : Dev nD) (t : Fin cfg0.N) (y : S1024x256.Idx) :
    gB m c t (ix3 0 0 (y 1)) = Reference3Ideal.Read.val_main_v10 (F := Ideal) (m ((c : Thread nD τ).loc main_arg3)) (Reference3Ideal.Read.idx_main_v13 (((cfg0.win 4).blk t).view.emb y)) := by
  have b0 : (grid0.coords t 0).val < 16 := (grid0.coords t 0).isLt
  have b1 : (grid0.coords t 1).val < 16 := (grid0.coords t 1).isLt
  rw [Reference3Ideal.Read.val_main_v10_apply, Reference3Ideal.Read.val_main_v5_apply]
  blk_simp [iblk, gB]
  blk_ext [idx t] <;> omega

/-- One element of the tile computed at a grid point is the reference's element at its place in the array. -/
theorem point (c : Dev nD) (t : Fin cfg0.N) (y : S1024x256.Idx) :
    k0_pay1 (iblk m c 0 t) (iblk m c 1 t) (iblk m c 2 t) (iblk m c 3 t) y
      = Reference3Ideal.Read.val_main_v13 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  rw [Reference3Ideal.Read.val_main_v13_apply, Reference3Ideal.Read.val_main_v12_apply, Reference3Ideal.Read.val_main_v11_apply]
  exact tile (aB m c t) (wB m c t) (xB m c t) (gB m c t) y _ _ _ (dot m c t y) (res m c t y) (gate m c t y)

/-- After the run, the output array is the reference's term of the arguments. -/
theorem final (c : Dev nD) : (dats m 0 c).arrAt 4 (cfgs 0).N
    = Reference3Ideal.Read.val_main_v13 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.FfnDown

end
-- ==== Proof.LastNorm.lean ====
/- The last norm: its output, as the host shapes it, is the reference's term. -/
module

public import proofs.«01_k».proof.Proof.Gen.Kernel11Ideal.Frame
public import proofs.«01_k».proof.Proof.Gen.Reference11Ideal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.LastNorm

open Cert.Kernel11Ideal Cert.Kernel11Ideal.Gen

variable (m : (ℓ : Loc nD τ sig) → Buf (Elt Ideal) ℓ)

/-- The block each window takes at a grid point. -/
theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- The block of rows at a grid point. -/
abbrev xB (c : Dev nD) (t : Fin cfg0.N) : FVec Ideal S256x4096 .f32 := iblk m c 0 t
/-- The block of the norm's weights at a grid point. -/
abbrev gB (c : Dev nD) (t : Fin cfg0.N) : FVec Ideal S1x4096 .f32 := iblk m c 1 t

/-- An element of a norm, from the element, the row's sum of squares and the weight. -/
def elem (x s g : EReal) : EReal :=
  x * Ideal.rsqrt (Ideal.div s (Ideal.ofBits FTy.f32 0x45800000#32) + Ideal.ofBits FTy.f32 0x358637BD#32) * g

/-- The rows of an array, each normed. -/
def rows (x0 : FVec Ideal S16384x4096 .f32) (x1 : FVec Ideal S4096 .f32) : FVec Ideal S16384x4096 .f32 := fun i =>
  elem (x0 (ix2 (i 0) (i 1))) (∑ k : Fin 4096, x0 (ix2 (i 0) k) * x0 (ix2 (i 0) k)) (x1 (ix1 (i 1)))

/-- One element of a tile, from the blocks. -/
theorem tile (X : FVec Ideal S256x4096 .f32) (G : FVec Ideal S1x4096 .f32) (y : S256x4096.Idx) :
    (k0_pay1 (F := Ideal) X G y : EReal) = elem (X y) (∑ k : Fin 4096, X (ix2 (y 0) k) * X (ix2 (y 0) k)) (G (ix2 0 (y 1))) := by
  unfold elem
  pointwise [k0_pay1]

/-- The normed rows in the result's shape are the reference's result. -/
theorem result (x0 : FVec Ideal S16384x4096 .f32) (x1 : FVec Ideal S4096 .f32) :
    shapeCast S2x8192x4096 (rows x0 x1) shapeCasts_S16384x4096_S2x8192x4096 = Reference11Ideal.Read.val_main_v13 (F := Ideal) x0 x1 := by
  funext i
  simp only [Reference11Ideal.Read.val_main_v13_apply, Reference11Ideal.Read.val_main_v12_apply, Reference11Ideal.Read.val_main_v11_apply,
    Reference11Ideal.Read.val_main_v10_apply, Reference11Ideal.Read.val_main_v9_apply, Reference11Ideal.Read.val_main_v8_apply,
    Reference11Ideal.Read.val_main_v7_apply, Reference11Ideal.Read.val_main_v6_apply, Reference11Ideal.Read.val_main_v5_apply,
    Reference11Ideal.Read.val_main_v4_apply, Reference11Ideal.Read.val_main_v3_apply, Reference11Ideal.Read.val_main_v2_apply,
    Reference11Ideal.Read.val_main_v1_apply, Reference11Ideal.Read.val_main_v0_apply, Reference11Ideal.Read.val_main_cst_apply,
    Reference11Ideal.Read.val_main_cst_0_apply, Reference11Ideal.Read.val_main_cst_1_apply]
  refine (Reference11Ideal.Read.val_main_v0_apply (F := Ideal) (rows x0 x1) i).trans ?_
  unfold rows elem
  pointwise
  have e8 : ∀ k, Reference11Ideal.Read.idx_main_v0 (Reference11Ideal.Read.idx_main_v2 (Reference11Ideal.Read.idx_main_v3
      (Reference11Ideal.Read.idx_main_v9 i)) k) = ix2 (Reference11Ideal.Read.idx_main_v0 i 0) k := by
    intro k
    blk_ext
  have eg : Reference11Ideal.Read.idx_main_v11 (Reference11Ideal.Read.idx_main_v12 i) = ix1 (Reference11Ideal.Read.idx_main_v0 i 1) := by
    blk_ext
  simp only [e8, eg]
  rfl

/-- The block of rows holds the argument's rows. -/
theorem part (c : Dev nD) (t : Fin cfg0.N) (r : Fin 256) (k : Fin 4096) (i : Fin 16384) (hi : i.val = (grid0.coords t 0).val * 256 + r.val) :
    xB m c t (ix2 r k) = m ((c : Thread nD τ).loc main_arg0) (ix2 i k) := by
  blk_simp [iblk, xB]
  blk_ext [idx t]

/-- The block of weights holds the argument. -/
theorem gain (c : Dev nD) (t : Fin cfg0.N) (k : Fin 4096) : gB m c t (ix2 0 k) = m ((c : Thread nD τ).loc main_arg1) (ix1 k) := by
  have e : V m c main_v0 (ix2 0 k) = m ((c : Thread nD τ).loc main_arg1) (ix1 k) := by
    unfold V V0
    after_reads_simp
    pointwise
  rw [← e]
  blk_simp [iblk, gB]
  blk_ext [idx t]

/-- One element of the tile computed at a grid point is the normed rows' element at its place in the array. -/
theorem point (c : Dev nD) (t : Fin cfg0.N) (r : Fin 256) (j : Fin 4096) (i : Fin 16384) (hi : i.val = (grid0.coords t 0).val * 256 + r.val) :
    (k0_pay1 (F := Ideal) (xB m c t) (gB m c t) (ix2 r j) : EReal)
      = rows (m ((c : Thread nD τ).loc main_arg0)) (m ((c : Thread nD τ).loc main_arg1)) (ix2 i j) := by
  refine (tile _ _ _).trans ?_
  show elem (xB m c t (ix2 r j)) (∑ k : Fin 4096, xB m c t (ix2 r k) * xB m c t (ix2 r k)) (gB m c t (ix2 0 j)) = _
  rw [gain m c t]
  simp only [part m c t r _ i hi]
  rfl

set_option maxHeartbeats 1600000 in
/-- After the run, the output array holds the normed rows of the argument. -/
theorem final (c : Dev nD) : (dats m 0 c).arrAt 2 (cfgs 0).N
    = rows (m ((c : Thread nD τ).loc main_arg0)) (m ((c : Thread nD τ).loc main_arg1)) := by
  refine (dats m 0 c).arrAt_eq_of_covers 2 _ (by decide +kernel) fun t _ y => ?_
  blk_simp
  rw [after0_2]; frame_out
  have hi : ((((cfg0.win 2).blk t).view.emb y) 0).val = (grid0.coords t 0).val * 256 + (y 0).val := by
    have e : (((win0_2.blk t).view.emb y) 0).val = win0_2.index t 0 * 256 + (y 0).val := Pipeline.Window.rect_emb_val win0_2 t y 0
    refine e.trans ?_
    rw [(idx t).2.2]
    rfl
  have hj : ((((cfg0.win 2).blk t).view.emb y) 1) = y 1 := by
    have e : (((win0_2.blk t).view.emb y) 1).val = win0_2.index t 1 * 4096 + (y 1).val := Pipeline.Window.rect_emb_val win0_2 t y 1
    refine Fin.ext (e.trans ?_)
    rw [(idx t).2.2]
    exact (congrArg (· + (y 1).val) (Nat.zero_mul 4096)).trans (Nat.zero_add _)
  refine (congrArg _ (eq_ix2 y)).trans ((point m c t (y 0) (y 1) _ hi).trans ?_)
  refine congrArg _ (Eq.trans ?_ (eq_ix2 _).symm)
  exact congrArg₂ ix2 rfl hj.symm

/-- The program's result is the output array as the host shapes it after the region. -/
theorem tail (c : Dev nD) : Pipeline.afterTail₀ cfgs (dats m) 0 (V0 m) [hostOps1] c main_v2
    = shapeCast S2x8192x4096 ((dats m 0 c).arrAt 2 (cfgs 0).N) shapeCasts_S16384x4096_S2x8192x4096 := by
  have e := Pipeline.withArrays_arr spec0 (by decide : Function.Injective (Pipeline.arrRef spec0)) c (V0 m c)
    (fun w => (dats m 0 c).arrAt w (cfgs 0).N) 2
  unfold Pipeline.afterTail₀
  simp only [hostOps1, List.flatten_cons, List.flatten_nil, List.append_nil]
  after_results
  exact congrArg (fun a => shapeCast S2x8192x4096 a shapeCasts_S16384x4096_S2x8192x4096) e

end Cert.LastNorm

end
-- ==== Proof.Merge.lean ====
/- The merge of the three branches: its output array is the reference's term. -/
module

public import proofs.«01_k».proof.Proof.Gen.Kernel5Ideal.Frame
public import proofs.«01_k».proof.Proof.Gen.Reference5Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Merge

open Cert.Kernel5Ideal Cert.Kernel5Ideal.Gen

variable (m : (ℓ : Loc nD τ sig) → Buf (Elt Ideal) ℓ)

/-- The block each window takes at a grid point. -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![0, (grid0.coords t 1).val]
    ∧ win0_4.index t = ![0, (grid0.coords t 1).val]
    ∧ win0_5.index t = ![0, (grid0.coords t 1).val]
    ∧ win0_6.index t = ![(grid0.coords t 0).val, (grid0.coords t 1).val]
    ∧ win0_7.index t = ![(grid0.coords t 0).val, 8 + (grid0.coords t 1).val]
    ∧ win0_8.index t = ![(grid0.coords t 0).val, 16 + (grid0.coords t 1).val]
    ∧ win0_9.index t = ![(grid0.coords t 0).val, (grid0.coords t 1).val] :=
  (by decide +kernel : ∀ t : Fin grid0.N, _)

/-- The host's array of branch A's weights is the reference's slice of the argument. -/
theorem weightsA (c : Dev nD) : V m c main_v1 = Reference5Ideal.Read.val_main_v4 (F := Ideal) (m ((c : Thread nD τ).loc main_arg4)) := by
  entry_read
  rfl

/-- The host's array of branch B's weights is the reference's slice of the argument. -/
theorem weightsB (c : Dev nD) : V m c main_v2 = Reference5Ideal.Read.val_main_v6 (F := Ideal) (m ((c : Thread nD τ).loc main_arg4)) := by
  entry_read
  rfl

/-- The host's array of branch C's weights is the reference's slice of the argument. -/
theorem weightsC (c : Dev nD) : V m c main_v3 = Reference5Ideal.Read.val_main_v8 (F := Ideal) (m ((c : Thread nD τ).loc main_arg4)) := by
  entry_read
  rfl

/-- The block of branch A's output at a grid point. -/
abbrev oA (c : Dev nD) (t : Fin cfg0.N) : FVec Ideal S1024x2048 .bf16 := iblk m c 0 t
/-- The block of branch A's weights at a grid point. -/
abbrev wA (c : Dev nD) (t : Fin cfg0.N) : FVec Ideal S2048x512 .bf16 := iblk m c 3 t
/-- The block of branch A's gates at a grid point. -/
abbrev gA (c : Dev nD) (t : Fin cfg0.N) : FVec Ideal S1024x512 .bf16 := iblk m c 6 t
/-- The block of branch B's output at a grid point. -/
abbrev oB (c : Dev nD) (t : Fin cfg0.N) : FVec Ideal S1024x1024 .bf16 := iblk m c 1 t
/-- The block of branch B's weights at a grid point. -/
abbrev wB (c : Dev nD) (t : Fin cfg0.N) : FVec Ideal S1024x512 .bf16 := iblk m c 4 t
/-- The block of branch B's gates at a grid point. -/
abbrev gB (c : Dev nD) (t : Fin cfg0.N) : FVec Ideal S1024x512 .bf16 := iblk m c 7 t
/-- The block of branch C's output at a grid point. -/
abbrev oC (c : Dev nD) (t : Fin cfg0.N) : FVec Ideal S1024x1024 .bf16 := iblk m c 2 t
/-- The block of branch C's weights at a grid point. -/
abbrev wC (c : Dev nD) (t : Fin cfg0.N) : FVec Ideal S1024x512 .bf16 := iblk m c 5 t
/-- The block of branch C's gates at a grid point. -/
abbrev gC (c : Dev nD) (t : Fin cfg0.N) : FVec Ideal S1024x512 .bf16 := iblk m c 8 t

/-- One element of a tile, from the blocks: the gated sum of the three dot products. -/
theorem tile (A : FVec Ideal S1024x2048 .bf16) (A' : FVec Ideal S2048x512 .bf16) (B : FVec Ideal S1024x1024 .bf16) (B' : FVec Ideal S1024x512 .bf16)
    (C : FVec Ideal S1024x1024 .bf16) (C' : FVec Ideal S1024x512 .bf16) (G H K : FVec Ideal S1024x512 .bf16) (y : S1024x512.Idx) (a b d g h k : EReal)
    (ha : (∑ k : Fin 2048, A (ix2 (y 0) k) * A' (ix2 k (y 1))) = a) (hb : (∑ k : Fin 1024, B (ix2 (y 0) k) * B' (ix2 k (y 1))) = b)
    (hd : (∑ k : Fin 1024, C (ix2 (y 0) k) * C' (ix2 k (y 1))) = d) (hg : G y = g) (hh : H y = h) (hk : K y = k) :
    (k0_pay1 (F := Ideal) A A' B B' C C' G H K y : EReal) = g * a + h * b + k * d := by
  pointwise [k0_pay1]
  rw [ha, hb, hd, hg, hh, hk]

/-- Branch A's dot product of a tile is the reference's at the tile's place. -/
theorem dotA (c : Dev nD) (t : Fin cfg0.N) (y : S1024x512.Idx) :
    (∑ k : Fin 2048, oA m c t (ix2 (y 0) k) * wA m c t (ix2 k (y 1)))
      = Reference5Ideal.Read.val_main_v5 (F := Ideal) (m ((c : Thread nD τ).loc main_arg0)) (m ((c : Thread nD τ).loc main_arg4)) (((cfg0.win 9).blk t).view.emb y) := by
  rw [Reference5Ideal.Read.val_main_v5_apply]
  refine Finset.sum_congr rfl fun k _ => ?_
  rw [Reference5Ideal.Read.val_main_v0_apply, ← weightsA m c]
  blk_simp [iblk, oA, wA]
  congr 1
  · blk_ext [idx t]
  · blk_ext [idx t]

/-- Branch A's gate of a tile is the reference's at the tile's place. -/
theorem gateA (c : Dev nD) (t : Fin cfg0.N) (y : S1024x512.Idx) :
    gA m c t y = Reference5Ideal.Read.val_main_v10 (F := Ideal) (m ((c : Thread nD τ).loc main_arg3)) (((cfg0.win 9).blk t).view.emb y) := by
  rw [Reference5Ideal.Read.val_main_v10_apply, Reference5Ideal.Read.val_main_v3_apply]
  blk_simp [iblk, gA]
  blk_ext [idx t]

/-- Branch B's dot product of a tile is the reference's at the tile's place. -/
theorem dotB (c : Dev nD) (t : Fin cfg0.N) (y : S1024x512.Idx) :
    (∑ k : Fin 1024, oB m c t (ix2 (y 0) k) * wB m c t (ix2 k (y 1)))
      = Reference5Ideal.Read.val_main_v7 (F := Ideal) (m ((c : Thread nD τ).loc main_arg1)) (m ((c : Thread nD τ).loc main_arg4)) (((cfg0.win 9).blk t).view.emb y) := by
  rw [Reference5Ideal.Read.val_main_v7_apply]
  refine Finset.sum_congr rfl fun k _ => ?_
  rw [Reference5Ideal.Read.val_main_v1_apply, ← weightsB m c]
  blk_simp [iblk, oB, wB]
  congr 1
  · blk_ext [idx t]
  · blk_ext [idx t]

/-- Branch B's gate of a tile is the reference's at the tile's place. -/
theorem gateB (c : Dev nD) (t : Fin cfg0.N) (y : S1024x512.Idx) :
    gB m c t y = Reference5Ideal.Read.val_main_v11 (F := Ideal) (m ((c : Thread nD τ).loc main_arg3)) (((cfg0.win 9).blk t).view.emb y) := by
  rw [Reference5Ideal.Read.val_main_v11_apply, Reference5Ideal.Read.val_main_v3_apply]
  blk_simp [iblk, gB]
  blk_ext [idx t]

/-- Branch C's dot product of a tile is the reference's at the tile's place. -/
theorem dotC (c : Dev nD) (t : Fin cfg0.N) (y : S1024x512.Idx) :
    (∑ k : Fin 1024, oC m c t (ix2 (y 0) k) * wC m c t (ix2 k (y 1)))
      = Reference5Ideal.Read.val_main_v9 (F := Ideal) (m ((c : Thread nD τ).loc main_arg2)) (m ((c : Thread nD τ).loc main_arg4)) (((cfg0.win 9).blk t).view.emb y) := by
  rw [Reference5Ideal.Read.val_main_v9_apply]
  refine Finset.sum_congr rfl fun k _ => ?_
  rw [Reference5Ideal.Read.val_main_v2_apply, ← weightsC m c]
  blk_simp [iblk, oC, wC]
  congr 1
  · blk_ext [idx t]
  · blk_ext [idx t]

/-- Branch C's gate of a tile is the reference's at the tile's place. -/
theorem gateC (c : Dev nD) (t : Fin cfg0.N) (y : S1024x512.Idx) :
    gC m c t y = Reference5Ideal.Read.val_main_v12 (F := Ideal) (m ((c : Thread nD τ).loc main_arg3)) (((cfg0.win 9).blk t).view.emb y) := by
  rw [Reference5Ideal.Read.val_main_v12_apply, Reference5Ideal.Read.val_main_v3_apply]
  blk_simp [iblk, gC]
  blk_ext [idx t]

/-- One element of the tile computed at a grid point is the reference's element at its place in the array. -/
theorem point (c : Dev nD) (t : Fin cfg0.N) (y : S1024x512.Idx) :
    k0_pay1 (iblk m c 0 t) (iblk m c 3 t) (iblk m c 1 t) (iblk m c 4 t) (iblk m c 2 t) (iblk m c 5 t) (iblk m c 6 t) (iblk m c 7 t) (iblk m c 8 t) y
      = Reference5Ideal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb y) := by
  rw [Reference5Ideal.Read.val_main_v18_apply, Reference5Ideal.Read.val_main_v17_apply, Reference5Ideal.Read.val_main_v16_apply, Reference5Ideal.Read.val_main_v15_apply, Reference5Ideal.Read.val_main_v14_apply, Reference5Ideal.Read.val_main_v13_apply]
  exact tile (oA m c t) (wA m c t) (oB m c t) (wB m c t) (oC m c t) (wC m c t) (gA m c t) (gB m c t) (gC m c t) y _ _ _ _ _ _
    (dotA m c t y) (dotB m c t y) (dotC m c t y) (gateA m c t y) (gateB m c t y) (gateC m c t y)

/-- After the run, the output array is the reference's term of the arguments. -/
theorem final (c : Dev nD) : (dats m 0 c).arrAt 9 (cfgs 0).N
    = Reference5Ideal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; frame_out
  exact point m c t y

end Cert.Merge

end
-- ==== Proof.Modulation.lean ====
/- The modulation: its output array is the reference's term. -/
module

public import proofs.«01_k».proof.Proof.Gen.Kernel12Ideal.Frame
public import proofs.«01_k».proof.Proof.Gen.Reference12Ideal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Modulation

open Cert.Kernel12Ideal Cert.Kernel12Ideal.Gen

variable (m : (ℓ : Loc nD τ sig) → Buf (Elt Ideal) ℓ)

/-- The block each window takes at a grid point. -/
theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- The conditioning rows at a grid point. -/
abbrev cB (c : Dev nD) (t : Fin cfg0.N) : FVec Ideal S8x4096 .f32 := iblk m c 0 t
/-- The block of weights at a grid point. -/
abbrev wB (c : Dev nD) (t : Fin cfg0.N) : FVec Ideal S1x4096x512 .f32 := iblk m c 1 t
/-- The block of biases at a grid point. -/
abbrev bB (c : Dev nD) (t : Fin cfg0.N) : FVec Ideal S1x1x512 .f32 := iblk m c 2 t

/-- A number times its sigmoid. -/
def gated (x : EReal) : EReal := x * Ideal.div 1 (1 + Ideal.exp (-x))

/-- One element of a tile, from the blocks. -/
theorem tile (C : FVec Ideal S8x4096 .f32) (W : FVec Ideal S1x4096x512 .f32) (B : FVec Ideal S1x1x512 .f32) (y : S1x8x512.Idx) :
    (k0_pay1 (F := Ideal) C W B y : EReal) = (∑ k : Fin 4096, gated (C (ix2 (y 1) k)) * W (ix3 0 k (y 2))) + B (ix3 0 0 (y 2)) := by
  unfold gated
  pointwise [k0_pay1]
  simp only [zero_sub]

/-- An element of the reference's result. -/
theorem ref (x0 : FVec Ideal S8x4096 .f32) (x1 : FVec Ideal S2x4096x24576 .f32) (x2 : FVec Ideal S2x24576 .f32) (l : Fin 2) (r : Fin 8) (j : Fin 24576) :
    (Reference12Ideal.Read.val_main_v20 (F := Ideal) x0 x1 x2 (ix3 l r j) : EReal)
      = (∑ k : Fin 4096, gated (x0 (ix2 r k)) * x1 (ix3 l k j)) + x2 (ix2 l j) := by
  unfold gated
  pointwise [Reference12Ideal.Read.val_main_v20]
  by_cases h : l.val < 1
  · obtain rfl : l = 0 := Fin.ext (by show l.val = 0; omega)
    simp only [h, ↓reduceDIte]
    simp only [Reference12Ideal.Read.val_main_v18_apply, Reference12Ideal.Read.val_main_v8_apply, Reference12Ideal.Read.val_main_v7_apply,
      Reference12Ideal.Read.val_main_v6_apply, Reference12Ideal.Read.val_main_v5_apply, Reference12Ideal.Read.val_main_v4_apply,
      Reference12Ideal.Read.val_main_v3_apply, Reference12Ideal.Read.val_main_v2_apply, Reference12Ideal.Read.val_main_v1_apply,
      Reference12Ideal.Read.val_main_v0_apply, Reference12Ideal.Read.val_main_call0_v5_apply, Reference12Ideal.Read.val_main_call0_v4_apply,
      Reference12Ideal.Read.val_main_call0_v3_apply, Reference12Ideal.Read.val_main_call0_v2_apply, Reference12Ideal.Read.val_main_call0_v1_apply,
      Reference12Ideal.Read.val_main_call0_v0_apply, Reference12Ideal.Read.val_main_call0_cst_apply, Reference12Ideal.Read.val_main_call0_cst_0_apply]
    pointwise
    have ex : ∀ k, Reference12Ideal.Read.lidx_main_v3 (Reference12Ideal.Read.idx_main_v18 (ix3 0 r j)) k = ix2 r k := by
      intro k
      blk_ext
    have ew : ∀ k, Reference12Ideal.Read.idx_main_v1 (Reference12Ideal.Read.idx_main_v2 (Reference12Ideal.Read.ridx_main_v3 (Reference12Ideal.Read.idx_main_v18 (ix3 0 r j)) k)) = ix3 0 k j := by
      intro k
      blk_ext
    have eb : Reference12Ideal.Read.idx_main_v4 (Reference12Ideal.Read.idx_main_v5 (Reference12Ideal.Read.idx_main_v6 (Reference12Ideal.Read.idx_main_v7 (Reference12Ideal.Read.idx_main_v18 (ix3 0 r j))))) = ix2 0 j := by
      blk_ext
    simp only [ex, ew, eb]
  · obtain rfl : l = 1 := Fin.ext (by show l.val = 1; omega)
    simp only [h, ↓reduceDIte]
    simp only [Reference12Ideal.Read.val_main_v19_apply, Reference12Ideal.Read.val_main_v17_apply, Reference12Ideal.Read.val_main_v16_apply,
      Reference12Ideal.Read.val_main_v15_apply, Reference12Ideal.Read.val_main_v14_apply, Reference12Ideal.Read.val_main_v13_apply,
      Reference12Ideal.Read.val_main_v12_apply, Reference12Ideal.Read.val_main_v11_apply, Reference12Ideal.Read.val_main_v10_apply,
      Reference12Ideal.Read.val_main_v9_apply, Reference12Ideal.Read.val_main_call1_v5_apply, Reference12Ideal.Read.val_main_call1_v4_apply,
      Reference12Ideal.Read.val_main_call1_v3_apply, Reference12Ideal.Read.val_main_call1_v2_apply, Reference12Ideal.Read.val_main_call1_v1_apply,
      Reference12Ideal.Read.val_main_call1_v0_apply, Reference12Ideal.Read.val_main_call1_cst_apply, Reference12Ideal.Read.val_main_call1_cst_0_apply]
    pointwise
    have ex : ∀ k, Reference12Ideal.Read.lidx_main_v12 (Reference12Ideal.Read.idx_main_v19 (ix3 0 r j)) k = ix2 r k := by
      intro k
      blk_ext
    have ew : ∀ k, Reference12Ideal.Read.idx_main_v10 (Reference12Ideal.Read.idx_main_v11 (Reference12Ideal.Read.ridx_main_v12 (Reference12Ideal.Read.idx_main_v19 (ix3 0 r j)) k)) = ix3 1 k j := by
      intro k
      blk_ext
    have eb : Reference12Ideal.Read.idx_main_v13 (Reference12Ideal.Read.idx_main_v14 (Reference12Ideal.Read.idx_main_v15 (Reference12Ideal.Read.idx_main_v16 (Reference12Ideal.Read.idx_main_v19 (ix3 0 r j))))) = ix2 1 j := by
      blk_ext
    simp only [ex, ew, eb]

/-- The block of conditioning rows is the argument. -/
theorem rows (c : Dev nD) (t : Fin cfg0.N) (r : Fin 8) (k : Fin 4096) : cB m c t (ix2 r k) = m ((c : Thread nD τ).loc main_arg0) (ix2 r k) := by
  blk_simp [iblk, cB]
  blk_ext [idx t]

/-- The block of weights holds the argument's columns. -/
theorem weights (c : Dev nD) (t : Fin cfg0.N) (k : Fin 4096) (q : Fin 512) (l : Fin 2) (j : Fin 24576) (hl : l.val = (grid0.coords t 0).val)
    (hj : j.val = (grid0.coords t 1).val * 512 + q.val) : wB m c t (ix3 0 k q) = m ((c : Thread nD τ).loc main_arg1) (ix3 l k j) := by
  blk_simp [iblk, wB]
  blk_ext [idx t]

/-- The block of biases holds the argument's columns. -/
theorem bias (c : Dev nD) (t : Fin cfg0.N) (q : Fin 512) (l : Fin 2) (j : Fin 24576) (hl : l.val = (grid0.coords t 0).val)
    (hj : j.val = (grid0.coords t 1).val * 512 + q.val) : bB m c t (ix3 0 0 q) = m ((c : Thread nD τ).loc main_arg2) (ix2 l j) := by
  have e : V m c main_v0 (ix3 l 0 j) = m ((c : Thread nD τ).loc main_arg2) (ix2 l j) := by
    unfold V
    after_reads_simp
    pointwise
  rw [← e]
  blk_simp [iblk, bB]
  blk_ext [idx t]

/-- One element of the tile computed at a grid point is the reference's element at its place in the array. -/
theorem point (c : Dev nD) (t : Fin cfg0.N) (z : Fin 1) (r : Fin 8) (q : Fin 512) (l : Fin 2) (j : Fin 24576) (hl : l.val = (grid0.coords t 0).val)
    (hj : j.val = (grid0.coords t 1).val * 512 + q.val) :
    (k0_pay1 (F := Ideal) (cB m c t) (wB m c t) (bB m c t) (ix3 z r q) : EReal)
      = Reference12Ideal.Read.val_main_v20 (F := Ideal) (m ((c : Thread nD τ).loc main_arg0)) (m ((c : Thread nD τ).loc main_arg1)) (m ((c : Thread nD τ).loc main_arg2)) (ix3 l r j) := by
  refine (tile _ _ _ _).trans (Eq.trans ?_ (ref _ _ _ _ _ _).symm)
  show (∑ k : Fin 4096, gated (cB m c t (ix2 r k)) * wB m c t (ix3 0 k q)) + bB m c t (ix3 0 0 q) = _
  rw [bias m c t q l j hl hj]
  simp only [rows m c t, weights m c t _ q l j hl hj]

set_option maxHeartbeats 1600000 in
/-- After the run, the output array is the reference's term of the arguments. -/
theorem final (c : Dev nD) : (dats m 0 c).arrAt 3 (cfgs 0).N
    = Reference12Ideal.Read.val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have hl : ((((cfg0.win 3).blk t).view.emb y) 0).val = (grid0.coords t 0).val := by
    have e : (((win0_3.blk t).view.emb y) 0).val = win0_3.index t 0 * 1 + (y 0).val := Pipeline.Window.rect_emb_val win0_3 t y 0
    have h0 : (y 0).val < 1 := (y 0).isLt
    refine e.trans ?_
    rw [(idx t).2.2.2]
    show (grid0.coords t 0).val * 1 + (y 0).val = _
    omega
  have hr : ((((cfg0.win 3).blk t).view.emb y) 1) = y 1 := by
    have e : (((win0_3.blk t).view.emb y) 1).val = win0_3.index t 1 * 8 + (y 1).val := Pipeline.Window.rect_emb_val win0_3 t y 1
    refine Fin.ext (e.trans ?_)
    rw [(idx t).2.2.2]
    exact (congrArg (· + (y 1).val) (Nat.zero_mul 8)).trans (Nat.zero_add _)
  have hj : ((((cfg0.win 3).blk t).view.emb y) 2).val = (grid0.coords t 1).val * 512 + (y 2).val := by
    have e : (((win0_3.blk t).view.emb y) 2).val = win0_3.index t 2 * 512 + (y 2).val := Pipeline.Window.rect_emb_val win0_3 t y 2
    refine e.trans ?_
    rw [(idx t).2.2.2]
    rfl
  refine (congrArg _ (eq_ix3 y)).trans ((point m c t (y 0) (y 1) (y 2) _ _ hl hj).trans ?_)
  refine congrArg _ (Eq.trans ?_ (eq_ix3 _).symm)
  exact congrArg (fun r => ix3 _ r _) hr.symm

end Cert.Modulation

end
-- ==== Proof.NaSoft.lean ====
/- Attention over two lists of keys, read at one query row and one column: normalising after the sums (as the
   kernel does) and before them (as the reference does) gives one value when every score is finite. -/
module

public import Idealize.ShloMosaic.Lib.Pipeline.ValueKit

@[expose] public section

noncomputable section

open Idealize.ShloMosaic

namespace Cert.NaSoft

/-- The largest score, folded from `−∞`. -/
def top {n : ℕ} (s : Fin n → EReal) : EReal := Finset.univ.fold max (Ideal.ofBits .f32 0xFF800000#32) s

/-- The kernel's row: the weighted values of both lists summed, then divided by the sum of the weights. -/
def attend {n k : ℕ} (s v : Fin n → EReal) (u w : Fin k → EReal) : EReal :=
  Ideal.div
    ((∑ l, Ideal.exp (s l - max (top s) (top u)) * v l) + ∑ c, Ideal.exp (u c - max (top s) (top u)) * w c)
    ((∑ l, Ideal.exp (s l - max (top s) (top u))) + ∑ c, Ideal.exp (u c - max (top s) (top u)))

/-- The reference's row: each weight divided by the sum of the weights, then the weighted values summed. -/
def normed {n k : ℕ} (s v : Fin n → EReal) (u w : Fin k → EReal) (M D : EReal) : EReal :=
  (∑ l, Ideal.div (Ideal.exp (s l - M)) D * v l) + ∑ c, Ideal.div (Ideal.exp (u c - M)) D * w c

/-- The pattern of `−∞` is `−∞`. -/
theorem ofBits_bot : Ideal.ofBits .f32 0xFF800000#32 = ⊥ := by
  simp [Ideal.ofBits, Ideal.ieee]

/-- The fold is the supremum. -/
theorem top_eq {n : ℕ} (s : Fin n → EReal) : top s = Finset.univ.sup s := by
  unfold top
  rw [ofBits_bot]
  rfl

/-- The largest of finitely many real scores is real. -/
theorem top_real {n : ℕ} (hn : 0 < n) (S : Fin n → ℝ) : ∃ r : ℝ, top (fun l => (S l : EReal)) = (r : EReal) := by
  rw [top_eq]
  have hne : (Finset.univ : Finset (Fin n)).Nonempty := ⟨⟨0, hn⟩, Finset.mem_univ _⟩
  obtain ⟨i, -, hi⟩ := Finset.exists_mem_eq_sup _ hne fun l => (S l : EReal)
  exact ⟨S i, hi⟩

/-- A sum of coerced reals is the coercion of the sum. -/
theorem coe_sum {n : ℕ} (f : Fin n → ℝ) : (∑ i, (f i : EReal)) = ((∑ i, f i : ℝ) : EReal) :=
  (map_sum (⟨⟨fun r : ℝ => (r : EReal), EReal.coe_zero⟩, EReal.coe_add⟩ : ℝ →+ EReal) f Finset.univ).symm

/-- A nonnegative finite factor comes out of a sum. -/
theorem sum_mul_real {n : ℕ} (f : Fin n → EReal) (r : ℝ) (hr : 0 ≤ r) :
    (∑ i, f i * (r : EReal)) = (∑ i, f i) * (r : EReal) := by
  have h0 : (0 : EReal) ≤ (r : EReal) := EReal.coe_nonneg.2 hr
  have ht : (r : EReal) ≠ ⊤ := EReal.coe_ne_top r
  refine Finset.induction_on (motive := fun t => (∑ i ∈ t, f i * (r : EReal)) = (∑ i ∈ t, f i) * (r : EReal))
    Finset.univ (by simp) fun a t ha ih => ?_
  rw [Finset.sum_insert ha, Finset.sum_insert ha, ih, EReal.right_distrib_of_nonneg_of_ne_top h0 ht]

/-- The two rows agree where every score is real, whatever the values. -/
theorem attend_eq_normed {n k : ℕ} (hn : 0 < n) (hk : 0 < k) (s v : Fin n → EReal) (u w : Fin k → EReal)
    (hs : ∀ l, ∃ r : ℝ, s l = r) (hu : ∀ c, ∃ r : ℝ, u c = r) :
    attend s v u w = normed s v u w (max (top s) (top u))
      ((∑ l, Ideal.exp (s l - max (top s) (top u))) + ∑ c, Ideal.exp (u c - max (top s) (top u))) := by
  choose S hS using hs
  choose U hU using hu
  obtain rfl : s = fun l => (S l : EReal) := funext hS
  obtain rfl : u = fun c => (U c : EReal) := funext hU
  obtain ⟨a, ha⟩ := top_real hn S
  obtain ⟨b, hb⟩ := top_real hk U
  obtain ⟨M, hM⟩ : ∃ M : ℝ, max (top fun l => (S l : EReal)) (top fun c => (U c : EReal)) = (M : EReal) := by
    rw [ha, hb]
    rcases le_total a b with h | h
    · exact ⟨b, max_eq_right (EReal.coe_le_coe_iff.2 h)⟩
    · exact ⟨a, max_eq_left (EReal.coe_le_coe_iff.2 h)⟩
  unfold attend normed
  rw [hM]
  have eS : ∀ l, Ideal.exp ((S l : EReal) - (M : EReal)) = ((Real.exp (S l - M) : ℝ) : EReal) := fun l => by
    rw [← EReal.coe_sub]; exact Ideal.exp_coe _
  have eU : ∀ c, Ideal.exp ((U c : EReal) - (M : EReal)) = ((Real.exp (U c - M) : ℝ) : EReal) := fun c => by
    rw [← EReal.coe_sub]; exact Ideal.exp_coe _
  simp only [eS, eU]
  rw [coe_sum, coe_sum, ← EReal.coe_add]
  have hD : 0 < (∑ l, Real.exp (S l - M)) + ∑ c, Real.exp (U c - M) := by
    have h1 : 0 ≤ ∑ l, Real.exp (S l - M) := Finset.sum_nonneg fun l _ => (Real.exp_pos _).le
    have h2 : Real.exp (U ⟨0, hk⟩ - M) ≤ ∑ c, Real.exp (U c - M) :=
      Finset.single_le_sum (f := fun c => Real.exp (U c - M)) (fun c _ => (Real.exp_pos _).le) (Finset.mem_univ _)
    have h3 := Real.exp_pos (U ⟨0, hk⟩ - M)
    linarith
  generalize (∑ l, Real.exp (S l - M)) + ∑ c, Real.exp (U c - M) = D at hD
  have hne : D ≠ 0 := hD.ne'
  simp only [Ideal.div_coe hne]
  have hr : (0 : ℝ) ≤ 1 / D := (one_div_pos.2 hD).le
  rw [EReal.right_distrib_of_nonneg_of_ne_top (EReal.coe_nonneg.2 hr) (EReal.coe_ne_top _),
    ← sum_mul_real _ _ hr, ← sum_mul_real _ _ hr]
  refine congrArg₂ (· + ·) (Finset.sum_congr rfl fun l _ => mul_right_comm _ _ _)
    (Finset.sum_congr rfl fun c _ => mul_right_comm _ _ _)

end Cert.NaSoft

end
-- ==== Proof.NaBias.lean ====
/- The neighbourhood attention's host tables: the bias windows and the column mask, read at an index. -/
module

public import proofs.«01_k».proof.Proof.Gen.KernelIdeal.Frame
public import proofs.«01_k».proof.Proof.NaSoft
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.NaBias

open Cert.KernelIdeal Cert.KernelIdeal.Gen

/-- The relative-position table of the call, every head and row offset spread over (query column, key column). -/
def tab (B : FVec Ideal S8x15x31 .f32) : FVec Ideal S8x15x64x64 .f32 :=
  Host.gather gather_S8x15x31_S64x64x1_S8x15x64x64_01_2_n_n_2_2_8151 B
    (broadcastInDim S64x64x1 ![0, 1] bcast_S64x64_S64x64x1_0_1
      (select (constantI S64x64 1 0#1)
        (addi (fun i => lit0 (S64x64.rowMajor i)) (broadcastInDim S64x64 ![] bcast_S_S64x64 (constantI S_ 32 31#32)))
        fun i => lit0 (S64x64.rowMajor i)))

variable (m : (ℓ : Loc nD τ sig) → Buf (Elt Ideal) ℓ)

/-- Block 0 of the call's bias window: eight consecutive row offsets of the table side by side, from offset 0 on. -/
theorem window0 (c : Dev nD) (h : Fin 8) (q : Fin 64) (l : Fin 512) :
    V m c main_v149 (ix4 h 0 q l)
      = tab (m (c, Proc.devRef .tc main_arg2)) (ix4 h ⟨0 + l.val / 64, by omega⟩ q ⟨l.val % 64, by omega⟩) := by
  unfold V
  after_reads_simp
  pointwise
  after_reads_simp
  pointwise
  after_reads_simp
  unfold tab
  generalize Host.gather _ _ _ = T
  pointwise
  have hl := l.isLt
  split_ifs
  all_goals
    refine congrArg T ?_
    congr 1
    · exact Fin.ext (by simp; omega)
    · exact Fin.ext (by simp; omega)

/-- Block 1 of the call's bias window: eight consecutive row offsets of the table side by side, from offset 1 on. -/
theorem window1 (c : Dev nD) (h : Fin 8) (q : Fin 64) (l : Fin 512) :
    V m c main_v149 (ix4 h 1 q l)
      = tab (m (c, Proc.devRef .tc main_arg2)) (ix4 h ⟨1 + l.val / 64, by omega⟩ q ⟨l.val % 64, by omega⟩) := by
  unfold V
  after_reads_simp
  pointwise
  after_reads_simp
  pointwise
  after_reads_simp
  unfold tab
  generalize Host.gather _ _ _ = T
  pointwise
  have hl := l.isLt
  split_ifs
  all_goals
    refine congrArg T ?_
    congr 1
    · exact Fin.ext (by simp; omega)
    · exact Fin.ext (by simp; omega)

/-- Block 2 of the call's bias window: eight consecutive row offsets of the table side by side, from offset 2 on. -/
theorem window2 (c : Dev nD) (h : Fin 8) (q : Fin 64) (l : Fin 512) :
    V m c main_v149 (ix4 h 2 q l)
      = tab (m (c, Proc.devRef .tc main_arg2)) (ix4 h ⟨2 + l.val / 64, by omega⟩ q ⟨l.val % 64, by omega⟩) := by
  unfold V
  after_reads_simp
  pointwise
  after_reads_simp
  pointwise
  after_reads_simp
  unfold tab
  generalize Host.gather _ _ _ = T
  pointwise
  have hl := l.isLt
  split_ifs
  all_goals
    refine congrArg T ?_
    congr 1
    · exact Fin.ext (by simp; omega)
    · exact Fin.ext (by simp; omega)

/-- Block 3 of the call's bias window: eight consecutive row offsets of the table side by side, from offset 3 on. -/
theorem window3 (c : Dev nD) (h : Fin 8) (q : Fin 64) (l : Fin 512) :
    V m c main_v149 (ix4 h 3 q l)
      = tab (m (c, Proc.devRef .tc main_arg2)) (ix4 h ⟨3 + l.val / 64, by omega⟩ q ⟨l.val % 64, by omega⟩) := by
  unfold V
  after_reads_simp
  pointwise
  after_reads_simp
  pointwise
  after_reads_simp
  unfold tab
  generalize Host.gather _ _ _ = T
  pointwise
  have hl := l.isLt
  split_ifs
  all_goals
    refine congrArg T ?_
    congr 1
    · exact Fin.ext (by simp; omega)
    · exact Fin.ext (by simp; omega)

/-- Block 4 of the call's bias window: eight consecutive row offsets of the table side by side, from offset 4 on. -/
theorem window4 (c : Dev nD) (h : Fin 8) (q : Fin 64) (l : Fin 512) :
    V m c main_v149 (ix4 h 4 q l)
      = tab (m (c, Proc.devRef .tc main_arg2)) (ix4 h ⟨4 + l.val / 64, by omega⟩ q ⟨l.val % 64, by omega⟩) := by
  unfold V
  after_reads_simp
  pointwise
  after_reads_simp
  pointwise
  after_reads_simp
  unfold tab
  generalize Host.gather _ _ _ = T
  pointwise
  have hl := l.isLt
  split_ifs
  all_goals
    refine congrArg T ?_
    congr 1
    · exact Fin.ext (by simp; omega)
    · exact Fin.ext (by simp; omega)

/-- Block 5 of the call's bias window: eight consecutive row offsets of the table side by side, from offset 5 on. -/
theorem window5 (c : Dev nD) (h : Fin 8) (q : Fin 64) (l : Fin 512) :
    V m c main_v149 (ix4 h 5 q l)
      = tab (m (c, Proc.devRef .tc main_arg2)) (ix4 h ⟨5 + l.val / 64, by omega⟩ q ⟨l.val % 64, by omega⟩) := by
  unfold V
  after_reads_simp
  pointwise
  after_reads_simp
  pointwise
  after_reads_simp
  unfold tab
  generalize Host.gather _ _ _ = T
  pointwise
  have hl := l.isLt
  split_ifs
  all_goals
    refine congrArg T ?_
    congr 1
    · exact Fin.ext (by simp; omega)
    · exact Fin.ext (by simp; omega)

/-- Block 6 of the call's bias window: eight consecutive row offsets of the table side by side, from offset 6 on. -/
theorem window6 (c : Dev nD) (h : Fin 8) (q : Fin 64) (l : Fin 512) :
    V m c main_v149 (ix4 h 6 q l)
      = tab (m (c, Proc.devRef .tc main_arg2)) (ix4 h ⟨6 + l.val / 64, by omega⟩ q ⟨l.val % 64, by omega⟩) := by
  unfold V
  after_reads_simp
  pointwise
  after_reads_simp
  pointwise
  after_reads_simp
  unfold tab
  generalize Host.gather _ _ _ = T
  pointwise
  have hl := l.isLt
  split_ifs
  all_goals
    refine congrArg T ?_
    congr 1
    · exact Fin.ext (by simp; omega)
    · exact Fin.ext (by simp; omega)

/-- Block 7 of the call's bias window: eight consecutive row offsets of the table side by side, from offset 7 on. -/
theorem window7 (c : Dev nD) (h : Fin 8) (q : Fin 64) (l : Fin 512) :
    V m c main_v149 (ix4 h 7 q l)
      = tab (m (c, Proc.devRef .tc main_arg2)) (ix4 h ⟨7 + l.val / 64, by omega⟩ q ⟨l.val % 64, by omega⟩) := by
  unfold V
  after_reads_simp
  pointwise
  after_reads_simp
  pointwise
  after_reads_simp
  unfold tab
  generalize Host.gather _ _ _ = T
  pointwise
  have hl := l.isLt
  split_ifs
  all_goals
    refine congrArg T ?_
    congr 1
    · exact Fin.ext (by simp; omega)
    · exact Fin.ext (by simp; omega)

end Cert.NaBias

end
-- ==== Proof.NaLitA.lean ====
/- The neighbourhood attention's literal tables: rows 0 to 15 of the column mask, in closed form. -/
module

public import proofs.«01_k».proof.Proof.Gen.KernelIdeal.Frame
public import proofs.«01_k».proof.Proof.NaSoft

@[expose] public section

set_option maxRecDepth 16384

noncomputable section

open Idealize.ShloMosaic Idealize.ShloMosaic.TcCoe Idealize.SL.Sem
open Idealize.ShloMosaic.Pipeline (Dat)

namespace Cert.NaLit

open Cert.KernelIdeal

/-- The mask table's rows 0 to 7: one where the key's column lies in the query's window of sixteen, zero elsewhere. -/
theorem mask_rows0 : ∀ (q : Fin 8) (l : Fin 512), lit1t ((0 + q.val) * 512 + l.val)
    = if min (0 + q.val - 8) 48 ≤ l.val % 64 ∧ l.val % 64 < min (0 + q.val - 8) 48 + 16 then 0x3F800000#32 else 0#32 := by
  decide +kernel

/-- The mask table's rows 8 to 15: one where the key's column lies in the query's window of sixteen, zero elsewhere. -/
theorem mask_rows1 : ∀ (q : Fin 8) (l : Fin 512), lit1t ((8 + q.val) * 512 + l.val)
    = if min (8 + q.val - 8) 48 ≤ l.val % 64 ∧ l.val % 64 < min (8 + q.val - 8) 48 + 16 then 0x3F800000#32 else 0#32 := by
  decide +kernel

end Cert.NaLit

end
-- ==== Proof.NaLitB.lean ====
/- The neighbourhood attention's literal tables: rows 16 to 31 of the column mask, in closed form. -/
module

public import proofs.«01_k».proof.Proof.Gen.KernelIdeal.Frame
public import proofs.«01_k».proof.Proof.NaSoft

@[expose] public section

set_option maxRecDepth 16384

noncomputable section

open Idealize.ShloMosaic Idealize.ShloMosaic.TcCoe Idealize.SL.Sem
open Idealize.ShloMosaic.Pipeline (Dat)

namespace Cert.NaLit

open Cert.KernelIdeal

/-- The mask table's rows 16 to 23: one where the key's column lies in the query's window of sixteen, zero elsewhere. -/
theorem mask_rows2 : ∀ (q : Fin 8) (l : Fin 512), lit1t ((16 + q.val) * 512 + l.val)
    = if min (16 + q.val - 8) 48 ≤ l.val % 64 ∧ l.val % 64 < min (16 + q.val - 8) 48 + 16 then 0x3F800000#32 else 0#32 := by
  decide +kernel

/-- The mask table's rows 24 to 31: one where the key's column lies in the query's window of sixteen, zero elsewhere. -/
theorem mask_rows3 : ∀ (q : Fin 8) (l : Fin 512), lit1t ((24 + q.val) * 512 + l.val)
    = if min (24 + q.val - 8) 48 ≤ l.val % 64 ∧ l.val % 64 < min (24 + q.val - 8) 48 + 16 then 0x3F800000#32 else 0#32 := by
  decide +kernel

end Cert.NaLit

end
-- ==== Proof.NaLitC.lean ====
/- The neighbourhood attention's literal tables: rows 32 to 47 of the column mask, in closed form. -/
module

public import proofs.«01_k».proof.Proof.Gen.KernelIdeal.Frame
public import proofs.«01_k».proof.Proof.NaSoft

@[expose] public section

set_option maxRecDepth 16384

noncomputable section

open Idealize.ShloMosaic Idealize.ShloMosaic.TcCoe Idealize.SL.Sem
open Idealize.ShloMosaic.Pipeline (Dat)

namespace Cert.NaLit

open Cert.KernelIdeal

/-- The mask table's rows 32 to 39: one where the key's column lies in the query's window of sixteen, zero elsewhere. -/
theorem mask_rows4 : ∀ (q : Fin 8) (l : Fin 512), lit1t ((32 + q.val) * 512 + l.val)
    = if min (32 + q.val - 8) 48 ≤ l.val % 64 ∧ l.val % 64 < min (32 + q.val - 8) 48 + 16 then 0x3F800000#32 else 0#32 := by
  decide +kernel

/-- The mask table's rows 40 to 47: one where the key's column lies in the query's window of sixteen, zero elsewhere. -/
theorem mask_rows5 : ∀ (q : Fin 8) (l : Fin 512), lit1t ((40 + q.val) * 512 + l.val)
    = if min (40 + q.val - 8) 48 ≤ l.val % 64 ∧ l.val % 64 < min (40 + q.val - 8) 48 + 16 then 0x3F800000#32 else 0#32 := by
  decide +kernel

end Cert.NaLit

end
-- ==== Proof.NaLitD.lean ====
/- The neighbourhood attention's literal tables: rows 48 to 63 of the column mask, in closed form. -/
module

public import proofs.«01_k».proof.Proof.Gen.KernelIdeal.Frame
public import proofs.«01_k».proof.Proof.NaSoft

@[expose] public section

set_option maxRecDepth 16384

noncomputable section

open Idealize.ShloMosaic Idealize.ShloMosaic.TcCoe Idealize.SL.Sem
open Idealize.ShloMosaic.Pipeline (Dat)

namespace Cert.NaLit

open Cert.KernelIdeal

/-- The mask table's rows 48 to 55: one where the key's column lies in the query's window of sixteen, zero elsewhere. -/
theorem mask_rows6 : ∀ (q : Fin 8) (l : Fin 512), lit1t ((48 + q.val) * 512 + l.val)
    = if min (48 + q.val - 8) 48 ≤ l.val % 64 ∧ l.val % 64 < min (48 + q.val - 8) 48 + 16 then 0x3F800000#32 else 0#32 := by
  decide +kernel

/-- The mask table's rows 56 to 63: one where the key's column lies in the query's window of sixteen, zero elsewhere. -/
theorem mask_rows7 : ∀ (q : Fin 8) (l : Fin 512), lit1t ((56 + q.val) * 512 + l.val)
    = if min (56 + q.val - 8) 48 ≤ l.val % 64 ∧ l.val % 64 < min (56 + q.val - 8) 48 + 16 then 0x3F800000#32 else 0#32 := by
  decide +kernel

end Cert.NaLit

end
-- ==== Proof.NaLit.lean ====
/- The neighbourhood attention's literal tables: the clipped column offset and the column mask, in closed form. -/
module

public import proofs.«01_k».proof.Proof.Gen.KernelIdeal.Frame
public import proofs.«01_k».proof.Proof.NaLitA
public import proofs.«01_k».proof.Proof.NaLitB
public import proofs.«01_k».proof.Proof.NaLitC
public import proofs.«01_k».proof.Proof.NaLitD

@[expose] public section

set_option maxRecDepth 16384

noncomputable section

open Idealize.ShloMosaic Idealize.ShloMosaic.TcCoe Idealize.SL.Sem
open Idealize.ShloMosaic.Pipeline (Dat)

namespace Cert.NaLit

open Cert.KernelIdeal

/-- The column offset of a key to a query, shifted and clipped to the table's 31 columns, is what the index table holds. -/
theorem col_at : ∀ q k : Fin 64, (lit0t (q.val * 64 + k.val)).toInt.toNat = min (k.val + 15 - q.val) 30 := by
  decide +kernel

/-- The mask table holds one where the key's column lies in the query's window of sixteen, zero elsewhere. -/
theorem mask_at (q : Fin 64) (l : Fin 512) : lit1t (q.val * 512 + l.val)
    = if min (q.val - 8) 48 ≤ l.val % 64 ∧ l.val % 64 < min (q.val - 8) 48 + 16 then 0x3F800000#32 else 0#32 := by
  have hq := q.isLt
  have e : ∀ j : Nat, q.val / 8 = j → q.val = 8 * j + (⟨q.val % 8, by omega⟩ : Fin 8).val := fun j hj => by
    show q.val = 8 * j + q.val % 8
    omega
  have hj : q.val / 8 < 8 := by omega
  rcases (by omega : q.val / 8 = 0 ∨ q.val / 8 = 1 ∨ q.val / 8 = 2 ∨ q.val / 8 = 3 ∨ q.val / 8 = 4 ∨ q.val / 8 = 5 ∨ q.val / 8 = 6 ∨ q.val / 8 = 7) with h | h | h | h | h | h | h | h
  · rw [e 0 h]; exact mask_rows0 _ l
  · rw [e 1 h]; exact mask_rows1 _ l
  · rw [e 2 h]; exact mask_rows2 _ l
  · rw [e 3 h]; exact mask_rows3 _ l
  · rw [e 4 h]; exact mask_rows4 _ l
  · rw [e 5 h]; exact mask_rows5 _ l
  · rw [e 6 h]; exact mask_rows6 _ l
  · rw [e 7 h]; exact mask_rows7 _ l

end Cert.NaLit

end
-- ==== Proof.NaTab.lean ====
/- The neighbourhood attention's host tables read at an index: the relative-position table, its windows, and the column mask. -/
module

public import proofs.«01_k».proof.Proof.NaBias
public import proofs.«01_k».proof.Proof.NaLit

@[expose] public section

set_option maxRecDepth 16384

noncomputable section

open Idealize.ShloMosaic Idealize.ShloMosaic.TcCoe Idealize.SL.Sem
open Idealize.ShloMosaic.Pipeline (Dat)

namespace Cert.NaTab

open Cert.KernelIdeal Cert.KernelIdeal.Gen

/-- The table's gather along its columns, at an index. -/
theorem gather_tab {α : Type} (x : S8x15x31.Idx → α) (idx : IVec S64x64x1 32) (h : Fin 8) (d : Fin 15) (q k : Fin 64) :
    Host.gather gather_S8x15x31_S64x64x1_S8x15x64x64_01_2_n_n_2_2_8151 x idx (ix4 h d q k) = x (ix3 h d ⟨min (idx (ix3 q k 0)).toInt.toNat 30, by omega⟩) := by
  unfold Host.gather
  congr 1
  funext a
  refine Fin.ext ?_
  show (gather_S8x15x31_S64x64x1_S8x15x64x64_01_2_n_n_2_2_8151).start _ _ a + (gather_S8x15x31_S64x64x1_S8x15x64x64_01_2_n_n_2_2_8151).batchCoord _ a + (gather_S8x15x31_S64x64x1_S8x15x64x64_01_2_n_n_2_2_8151).offCoord _ a = _
  rw [GatherDims.batchCoord_eq_zero _ _ _ (fun h => by simp [gather_S8x15x31_S64x64x1_S8x15x64x64_01_2_n_n_2_2_8151] at h)]
  have hc : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hc with rfl | rfl | rfl
  · unfold GatherDims.start
    rw [dif_neg (show (0 : Fin 3) ∉ (gather_S8x15x31_S64x64x1_S8x15x64x64_01_2_n_n_2_2_8151).startIndexMap from (by decide : (0 : Fin 3) ∉ [(2 : Fin 3)]))]
    show 0 + 0 + h.val = h.val
    omega
  · unfold GatherDims.start
    rw [dif_neg (show (1 : Fin 3) ∉ (gather_S8x15x31_S64x64x1_S8x15x64x64_01_2_n_n_2_2_8151).startIndexMap from (by decide : (1 : Fin 3) ∉ [(2 : Fin 3)]))]
    show 0 + 0 + d.val = d.val
    omega
  · rw [GatherDims.offCoord_eq_zero _ _ _ (fun h => ((GatherDims.mem_sKept _ _).mp h).1 (List.mem_singleton.mpr rfl))]
    unfold GatherDims.start
    rw [dif_pos (show (2 : Fin 3) ∈ (gather_S8x15x31_S64x64x1_S8x15x64x64_01_2_n_n_2_2_8151).startIndexMap from List.mem_singleton.mpr rfl)]
    have hsi : ∀ p, (gather_S8x15x31_S64x64x1_S8x15x64x64_01_2_n_n_2_2_8151).siIdx (ix4 h d q k) ⟨List.idxOf (2 : Fin 3) (gather_S8x15x31_S64x64x1_S8x15x64x64_01_2_n_n_2_2_8151).startIndexMap, p⟩ = ix3 q k 0 := by
      intro p
      funext b; refine Fin.ext ?_
      match b with
      | ⟨0, _⟩ => rfl
      | ⟨1, _⟩ => rfl
      | ⟨2, _⟩ => rfl
    rw [hsi]
    rfl

/-- The table at (head, row offset, query column, key column): the relative-position entry at the clipped column offset. -/
theorem tab_apply (B : FVec Ideal S8x15x31 .f32) (h : Fin 8) (d : Fin 15) (q k : Fin 64) :
    NaBias.tab B (ix4 h d q k) = B (ix3 h d ⟨min (k.val + 15 - q.val) 30, by omega⟩) := by
  unfold NaBias.tab
  rw [gather_tab]
  refine congrArg B ?_
  congr 1
  refine Fin.ext ?_
  show min _ 30 = min (k.val + 15 - q.val) 30
  have e : (S64x64.rowMajor (ix2 q k)).val = q.val * 64 + k.val := Shape.rowMajor_val_two _
  have hv : (lit0t (S64x64.rowMajor (ix2 q k)).val).toInt.toNat = min (k.val + 15 - q.val) 30 := by
    rw [e, NaLit.col_at]
  refine (congrArg (fun n => min n 30) hv).trans ?_
  omega

variable (m : (ℓ : Loc nD τ sig) → Buf (Elt Ideal) ℓ)

/-- The mask operand at (query column, key): one inside the query's window of columns, zero outside. -/
theorem mask (c : Dev nD) (q : Fin 64) (l : Fin 512) :
    V m c main_cst (ix2 q l) = Ideal.ofBits .f32 (if min (q.val - 8) 48 ≤ l.val % 64 ∧ l.val % 64 < min (q.val - 8) 48 + 16 then 0x3F800000#32 else 0#32) := by
  unfold V
  after_reads_simp
  have e : (S64x512.rowMajor (ix2 q l)).val = q.val * 512 + l.val := Shape.rowMajor_val_two _
  show Ideal.ofBits .f32 (lit1t (S64x512.rowMajor (ix2 q l)).val) = _
  rw [e, NaLit.mask_at]

end Cert.NaTab

end
-- ==== Proof.NaRow.lean ====
/- The neighbourhood attention's body: each of the four stored payloads, read at an index, is the row of `NaSoft`. -/
module

public import proofs.«01_k».proof.Proof.Gen.KernelIdeal.Skeleton
public import proofs.«01_k».proof.Proof.NaSoft

@[expose] public section

set_option maxRecDepth 16384

noncomputable section

open Idealize.ShloMosaic Idealize.ShloMosaic.TcCoe Idealize.SL.Sem

namespace Cert.NaRow

open Cert.KernelIdeal Cert.KernelIdeal.Gen

/-- The score of one key of the neighbourhood, from the blocks the body reads. -/
def score (mk : FVec Ideal S64x512 .f32) (q : FVec Ideal S64x128 .bf16) (kn : FVec Ideal S512x128 .bf16)
    (b : FVec Ideal S1x1x64x512 .f32) (r : Fin 64) (l : Fin 512) : EReal :=
  if (0 : EReal) < mk (ix2 r l) then (∑ d : Fin 128, (q (ix2 r d) : EReal) * kn (ix2 l d)) + b (ix4 0 0 r l)
  else Ideal.ofBits .f32 0xF149F2CA#32

/-- The score of one context key. -/
def cscore (q : FVec Ideal S64x128 .bf16) (kc : FVec Ideal S256x128 .bf16) (r : Fin 64) (c : Fin 256) : EReal :=
  ∑ d : Fin 128, (q (ix2 r d) : EReal) * kc (ix2 c d)

/-- What the first row group stores. -/
theorem pay_a (vc kc : FVec Ideal S256x128 .bf16) (mk : FVec Ideal S64x512 .f32) (q : FVec Ideal S64x128 .bf16)
    (kn vn : FVec Ideal S512x128 .bf16) (b : FVec Ideal S1x1x64x512 .f32) (r : Fin 64) (x : Fin 128) :
    (k0_pay6 (F := Ideal) vc vn (k0_pay3 mk q kn b) (k0_pay4 kc q) (k0_pay5 mk q kn b) (ix2 r x) : EReal)
      = NaSoft.attend (score mk q kn b r) (fun l => vn (ix2 l x)) (cscore q kc r) (fun c => vc (ix2 c x)) := by
  pointwise [k0_pay1, k0_pay2, k0_pay3, k0_pay4, k0_pay5, k0_pay6, k0_pay7, k0_pay8, k0_pay9, k0_pay10, k0_pay11, k0_pay12, k0_pay13, k0_pay14, k0_pay15, k0_pay16, NaSoft.attend, NaSoft.top, score, cscore]

/-- What the second row group stores. -/
theorem pay_b (vc kc : FVec Ideal S256x128 .bf16) (mk : FVec Ideal S64x512 .f32) (q : FVec Ideal S64x128 .bf16)
    (kn vn : FVec Ideal S512x128 .bf16) (b : FVec Ideal S1x1x64x512 .f32) (r : Fin 64) (x : Fin 128) :
    (k0_pay8 (F := Ideal) kc vc (k0_pay2 (F := Ideal) mk) q vn (k0_pay7 q kn) b (ix2 r x) : EReal)
      = NaSoft.attend (score mk q kn b r) (fun l => vn (ix2 l x)) (cscore q kc r) (fun c => vc (ix2 c x)) := by
  pointwise [k0_pay1, k0_pay2, k0_pay3, k0_pay4, k0_pay5, k0_pay6, k0_pay7, k0_pay8, k0_pay9, k0_pay10, k0_pay11, k0_pay12, k0_pay13, k0_pay14, k0_pay15, k0_pay16, NaSoft.attend, NaSoft.top, score, cscore]

/-- What the third row group stores. -/
theorem pay_c (vc kc : FVec Ideal S256x128 .bf16) (mk : FVec Ideal S64x512 .f32) (q : FVec Ideal S64x128 .bf16)
    (kn vn : FVec Ideal S512x128 .bf16) (b : FVec Ideal S1x1x64x512 .f32) (r : Fin 64) (x : Fin 128) :
    (k0_pay9 (F := Ideal) kc vc (k0_pay2 (F := Ideal) mk) q kn vn b (ix2 r x) : EReal)
      = NaSoft.attend (score mk q kn b r) (fun l => vn (ix2 l x)) (cscore q kc r) (fun c => vc (ix2 c x)) := by
  pointwise [k0_pay1, k0_pay2, k0_pay3, k0_pay4, k0_pay5, k0_pay6, k0_pay7, k0_pay8, k0_pay9, k0_pay10, k0_pay11, k0_pay12, k0_pay13, k0_pay14, k0_pay15, k0_pay16, NaSoft.attend, NaSoft.top, score, cscore]

/-- What the fourth row group stores. -/
theorem pay_d (vc kc : FVec Ideal S256x128 .bf16) (mk : FVec Ideal S64x512 .f32) (q : FVec Ideal S64x128 .bf16)
    (kn vn : FVec Ideal S512x128 .bf16) (b : FVec Ideal S1x1x64x512 .f32) (r : Fin 64) (x : Fin 128) :
    (k0_pay1 (F := Ideal) vc (k0_pay14 kc (k0_pay2 (F := Ideal) mk) q kn b) (k0_pay15 kc (k0_pay2 (F := Ideal) mk) q kn vn b) (k0_pay16 kc (k0_pay2 (F := Ideal) mk) q kn b) (ix2 r x) : EReal)
      = NaSoft.attend (score mk q kn b r) (fun l => vn (ix2 l x)) (cscore q kc r) (fun c => vc (ix2 c x)) := by
  pointwise [k0_pay1, k0_pay2, k0_pay3, k0_pay4, k0_pay5, k0_pay6, k0_pay7, k0_pay8, k0_pay9, k0_pay10, k0_pay11, k0_pay12, k0_pay13, k0_pay14, k0_pay15, k0_pay16, NaSoft.attend, NaSoft.top, score, cscore]

end Cert.NaRow

end
-- ==== Proof.NaSpec.lean ====
/- The neighbourhood attention in plain terms: the scores and the result of one query, from the packed activations. -/
module

public import proofs.«01_k».proof.Proof.NaSoft

@[expose] public section

noncomputable section

open Idealize.ShloMosaic

namespace Cert.NaSpec

/-- The first key row of a query row: four rows up, kept inside the image. -/
def rs (r : ℕ) : ℕ := min (r - 4) 120

theorem rs_le (r : ℕ) : rs r ≤ 120 := Nat.min_le_right _ _

/-- Whether a key column lies in the sixteen columns of a query column. -/
def inWin (q k : ℕ) : Prop := min (q - 8) 48 ≤ k ∧ k < min (q - 8) 48 + 16

instance (q k : ℕ) : Decidable (inWin q k) := inferInstanceAs (Decidable (_ ∧ _))

variable (X : Fin 16384 → Fin 3072 → EReal) (Y : Fin 512 → Fin 3072 → EReal) (B : Fin 8 → Fin 15 → Fin 31 → EReal)

/-- The query of (batch, head, row, column), at a feature. -/
def qry (b : Fin 2) (h : Fin 8) (r : Fin 128) (q : Fin 64) (d : Fin 128) : EReal :=
  X ⟨b.val * 8192 + r.val * 64 + q.val, by omega⟩ ⟨h.val * 128 + d.val, by omega⟩

/-- The key of position `l` among the eight rows around a query row, at a feature. -/
def key (b : Fin 2) (h : Fin 8) (r : Fin 128) (l : Fin 512) (d : Fin 128) : EReal :=
  X ⟨b.val * 8192 + rs r.val * 64 + l.val, by have := rs_le r.val; omega⟩ ⟨1024 + h.val * 128 + d.val, by omega⟩

/-- Its value, at a feature. -/
def vlu (b : Fin 2) (h : Fin 8) (r : Fin 128) (l : Fin 512) (d : Fin 128) : EReal :=
  X ⟨b.val * 8192 + rs r.val * 64 + l.val, by have := rs_le r.val; omega⟩ ⟨2048 + h.val * 128 + d.val, by omega⟩

/-- The key of a context token, at a feature. -/
def ckey (b : Fin 2) (h : Fin 8) (c : Fin 256) (d : Fin 128) : EReal :=
  Y ⟨b.val * 256 + c.val, by omega⟩ ⟨1024 + h.val * 128 + d.val, by omega⟩

/-- The value of a context token, at a feature. -/
def cvlu (b : Fin 2) (h : Fin 8) (c : Fin 256) (d : Fin 128) : EReal :=
  Y ⟨b.val * 256 + c.val, by omega⟩ ⟨2048 + h.val * 128 + d.val, by omega⟩

/-- The relative-position bias of a query and a position around it. -/
def bias (h : Fin 8) (r : Fin 128) (q : Fin 64) (l : Fin 512) : EReal :=
  B h ⟨rs r.val + l.val / 64 + 7 - r.val, by unfold rs; omega⟩ ⟨min (l.val % 64 + 15 - q.val) 30, by omega⟩

/-- The score of a query with a position around it; outside the column window the mask's constant. -/
def nscore (b : Fin 2) (h : Fin 8) (r : Fin 128) (q : Fin 64) (l : Fin 512) : EReal :=
  if inWin q.val (l.val % 64) then (∑ d, qry X b h r q d * key X b h r l d) + bias B h r q l
  else Ideal.ofBits .f32 0xF149F2CA#32

/-- The score of a query with a context token. -/
def cscore (b : Fin 2) (h : Fin 8) (r : Fin 128) (q : Fin 64) (c : Fin 256) : EReal :=
  ∑ d, qry X b h r q d * ckey Y b h c d

/-- The attention's result for a query, at a feature. -/
def out (b : Fin 2) (h : Fin 8) (r : Fin 128) (q : Fin 64) (x : Fin 128) : EReal :=
  NaSoft.attend (nscore X B b h r q) (fun l => vlu X b h r l x) (cscore X Y b h r q) (fun c => cvlu Y b h c x)

/-- One weight in a row of `attend` from equal scores and equal values. -/
theorem attend_congr {n k : ℕ} {s s' v v' : Fin n → EReal} {u u' w w' : Fin k → EReal} (hs : ∀ l, s l = s' l) (hv : ∀ l, v l = v' l)
    (hu : ∀ c, u c = u' c) (hw : ∀ c, w c = w' c) : NaSoft.attend s v u w = NaSoft.attend s' v' u' w' := by
  rw [funext hs, funext hv, funext hu, funext hw]

end Cert.NaSpec

end
-- ==== Proof.NaOut.lean ====
/- The neighbourhood attention: what the kernel leaves in its output block at a grid point. -/
module

public import proofs.«01_k».proof.Proof.NaTab
public import proofs.«01_k».proof.Proof.NaRow
public import proofs.«01_k».proof.Proof.NaSpec

@[expose] public section

set_option maxRecDepth 16384

noncomputable section

open Idealize.ShloMosaic Idealize.ShloMosaic.TcCoe Idealize.SL.Sem
open Idealize.ShloMosaic.Pipeline (Dat)

namespace Cert.NaOut

open Cert.KernelIdeal Cert.KernelIdeal.Gen

variable (m : (ℓ : Loc nD τ sig) → Buf (Elt Ideal) ℓ)

/-- The block each window takes at a grid point. -/
theorem idx : ∀ t : Fin cfg0.N, win0_0.index t = ![(grid0.coords t 0).val * 32 + (grid0.coords t 2).val, (grid0.coords t 1).val]
    ∧ win0_1.index t = ![(grid0.coords t 0).val, 8 + (grid0.coords t 1).val]
    ∧ win0_2.index t = ![(grid0.coords t 0).val, 16 + (grid0.coords t 1).val]
    ∧ win0_3.index t = ![(grid0.coords t 0).val, 8 + (grid0.coords t 1).val]
    ∧ win0_4.index t = ![(grid0.coords t 0).val, 16 + (grid0.coords t 1).val]
    ∧ win0_5.index t = ![(grid0.coords t 1).val, 0, 0, 0]
    ∧ win0_6.index t = ![0, 0]
    ∧ win0_7.index t = ![(grid0.coords t 0).val * 32 + (grid0.coords t 2).val, (grid0.coords t 1).val] :=
  (by decide +kernel : ∀ t : Fin grid0.N, _)

/-- The first key row read for each of the four query rows of a step. -/
theorem off1 : ∀ (t : Fin cfg0.N), k0_off1 (grid0.coords t) 0#32 = ![NaSpec.rs ((grid0.coords t 2).val * 4) * 64, 0]
    ∧ k0_off1 (grid0.coords t) 1#32 = ![NaSpec.rs ((grid0.coords t 2).val * 4 + 1) * 64, 0]
    ∧ k0_off1 (grid0.coords t) 2#32 = ![NaSpec.rs ((grid0.coords t 2).val * 4 + 2) * 64, 0]
    ∧ k0_off1 (grid0.coords t) 3#32 = ![NaSpec.rs ((grid0.coords t 2).val * 4 + 3) * 64, 0] :=
  (by decide +kernel : ∀ t : Fin grid0.N, _)

/-- The block of the bias window read for each of them. -/
theorem off2 : ∀ (t : Fin cfg0.N), k0_off2 (grid0.coords t) 0#32 = ![0, NaSpec.rs ((grid0.coords t 2).val * 4) + 7 - (grid0.coords t 2).val * 4, 0, 0]
    ∧ k0_off2 (grid0.coords t) 1#32 = ![0, NaSpec.rs ((grid0.coords t 2).val * 4 + 1) + 7 - ((grid0.coords t 2).val * 4 + 1), 0, 0]
    ∧ k0_off2 (grid0.coords t) 2#32 = ![0, NaSpec.rs ((grid0.coords t 2).val * 4 + 2) + 7 - ((grid0.coords t 2).val * 4 + 2), 0, 0]
    ∧ k0_off2 (grid0.coords t) 3#32 = ![0, NaSpec.rs ((grid0.coords t 2).val * 4 + 3) + 7 - ((grid0.coords t 2).val * 4 + 3), 0, 0] :=
  (by decide +kernel : ∀ t : Fin grid0.N, _)

/-- The packed activations, by row and column. -/
def lat (c : Dev nD) (i : Fin 16384) (j : Fin 3072) : EReal := m ((c : Thread nD τ).loc main_arg0) (ix2 i j)
/-- The packed context, by row and column. -/
def ctx (c : Dev nD) (i : Fin 512) (j : Fin 3072) : EReal := m ((c : Thread nD τ).loc main_arg1) (ix2 i j)
/-- The relative-position table. -/
def rpb (c : Dev nD) (h : Fin 8) (i : Fin 15) (j : Fin 31) : EReal := m ((c : Thread nD τ).loc main_arg2) (ix3 h i j)

/-- The arguments are as launched when the call begins. -/
theorem entry0 (c : Dev nD) : V m c main_arg0 = m ((c : Thread nD τ).loc main_arg0) := by
  unfold V
  after_reads_simp
/-- The arguments are as launched when the call begins. -/
theorem entry1 (c : Dev nD) : V m c main_arg1 = m ((c : Thread nD τ).loc main_arg1) := by
  unfold V
  after_reads_simp

/-- The block of queries at a grid point. -/
abbrev qB (c : Dev nD) (t : Fin cfg0.N) : FVec Ideal S256x128 .bf16 := iblk m c 0 t
/-- The block of keys at a grid point. -/
abbrev kB (c : Dev nD) (t : Fin cfg0.N) : FVec Ideal S8192x128 .bf16 := iblk m c 1 t
/-- The block of values at a grid point. -/
abbrev vB (c : Dev nD) (t : Fin cfg0.N) : FVec Ideal S8192x128 .bf16 := iblk m c 2 t
/-- The block of context keys at a grid point. -/
abbrev ckB (c : Dev nD) (t : Fin cfg0.N) : FVec Ideal S256x128 .bf16 := iblk m c 3 t
/-- The block of context values at a grid point. -/
abbrev cvB (c : Dev nD) (t : Fin cfg0.N) : FVec Ideal S256x128 .bf16 := iblk m c 4 t
/-- The block of bias windows at a grid point. -/
abbrev bB (c : Dev nD) (t : Fin cfg0.N) : FVec Ideal S1x8x64x512 .f32 := iblk m c 5 t
/-- The block of the mask at a grid point. -/
abbrev mB (c : Dev nD) (t : Fin cfg0.N) : FVec Ideal S64x512 .f32 := iblk m c 6 t

theorem lat_congr (c : Dev nD) {i i' : Fin 16384} {j j' : Fin 3072} (hi : i.val = i'.val) (hj : j.val = j'.val) : lat m c i j = lat m c i' j' := by
  rw [Fin.ext hi, Fin.ext hj]
theorem ctx_congr (c : Dev nD) {i i' : Fin 512} {j j' : Fin 3072} (hi : i.val = i'.val) (hj : j.val = j'.val) : ctx m c i j = ctx m c i' j' := by
  rw [Fin.ext hi, Fin.ext hj]

variable (c : Dev nD) (t : Fin cfg0.N) (b : Fin 2) (h : Fin 8) (s : Fin 32) (hb : (grid0.coords t 0).val = b.val) (hh : (grid0.coords t 1).val = h.val)
    (hs : (grid0.coords t 2).val = s.val)
include hb hh hs

/-- A query read from the block is the array's. -/
theorem blk0 (R : Fin 256) (d : Fin 128) : qB m c t (ix2 R d)
    = lat m c ⟨(b.val * 32 + s.val) * 256 + R.val, by omega⟩ ⟨h.val * 128 + d.val, by omega⟩ := by
  unfold lat
  rw [← entry0 m c]
  blk_simp [iblk, qB]
  blk_ext [idx t] <;> omega

/-- A key read from the block is the array's. -/
theorem blk1 (R : Fin 8192) (d : Fin 128) : kB m c t (ix2 R d)
    = lat m c ⟨b.val * 8192 + R.val, by omega⟩ ⟨1024 + h.val * 128 + d.val, by omega⟩ := by
  unfold lat
  rw [← entry0 m c]
  blk_simp [iblk, kB]
  blk_ext [idx t] <;> omega

/-- A value read from the block is the array's. -/
theorem blk2 (R : Fin 8192) (d : Fin 128) : vB m c t (ix2 R d)
    = lat m c ⟨b.val * 8192 + R.val, by omega⟩ ⟨2048 + h.val * 128 + d.val, by omega⟩ := by
  unfold lat
  rw [← entry0 m c]
  blk_simp [iblk, vB]
  blk_ext [idx t] <;> omega

/-- A context key read from the block is the array's. -/
theorem blk3 (R : Fin 256) (d : Fin 128) : ckB m c t (ix2 R d) = NaSpec.ckey (ctx m c) b h R d := by
  unfold NaSpec.ckey ctx
  rw [← entry1 m c]
  blk_simp [iblk, ckB]
  blk_ext [idx t] <;> omega

/-- A context value read from the block is the array's. -/
theorem blk4 (R : Fin 256) (d : Fin 128) : cvB m c t (ix2 R d) = NaSpec.cvlu (ctx m c) b h R d := by
  unfold NaSpec.cvlu ctx
  rw [← entry1 m c]
  blk_simp [iblk, cvB]
  blk_ext [idx t] <;> omega

/-- A bias read from the block is the table's entry. -/
theorem blk5 (o : Fin 8) (q : Fin 64) (l : Fin 512) : bB m c t (ix4 0 o q l)
    = rpb m c h ⟨o.val + l.val / 64, by omega⟩ ⟨min (l.val % 64 + 15 - q.val) 30, by omega⟩ := by
  have e : bB m c t (ix4 0 o q l) = V m c main_v149 (ix4 h o q l) := by
    blk_simp [iblk, bB]
    blk_ext [idx t] <;> omega
  rw [e]
  have w : ∀ o : Fin 8, V m c main_v149 (ix4 h o q l)
      = NaBias.tab (m (c, Proc.devRef .tc main_arg2)) (ix4 h ⟨o.val + l.val / 64, by omega⟩ q ⟨l.val % 64, by omega⟩) := by
    intro o
    match o with
    | ⟨0, _⟩ => exact NaBias.window0 m c h q l
    | ⟨1, _⟩ => exact NaBias.window1 m c h q l
    | ⟨2, _⟩ => exact NaBias.window2 m c h q l
    | ⟨3, _⟩ => exact NaBias.window3 m c h q l
    | ⟨4, _⟩ => exact NaBias.window4 m c h q l
    | ⟨5, _⟩ => exact NaBias.window5 m c h q l
    | ⟨6, _⟩ => exact NaBias.window6 m c h q l
    | ⟨7, _⟩ => exact NaBias.window7 m c h q l
  rw [w o, NaTab.tab_apply]
  rfl

/-- The mask read from the block says whether the key's column is in the query's window. -/
theorem blk6 (q : Fin 64) (l : Fin 512) : (0 : EReal) < mB m c t (ix2 q l) ↔ NaSpec.inWin q.val (l.val % 64) := by
  have e : mB m c t (ix2 q l) = V m c main_cst (ix2 q l) := by
    blk_simp [iblk, mB]
    blk_ext [idx t] <;> omega
  rw [e, NaTab.mask]
  unfold NaSpec.inWin
  split_ifs with hw
  · have h1 : Ideal.ofBits .f32 0x3F800000#32 = ((1 : ℝ) : EReal) := by
      simp [Ideal.ofBits, Ideal.ieee]
      rw [← EReal.coe_mul]
      norm_num
    rw [h1]
    exact iff_of_true (EReal.coe_pos.2 one_pos) hw
  · have h0 : Ideal.ofBits .f32 0#32 = 0 := by
      simp [Ideal.ofBits, Ideal.ieee]
    rw [h0]
    exact iff_of_false (lt_irrefl _) hw

/-- The kernel's scores of a query row are the attention's, when the blocks it reads are. -/
theorem score_eq (R : Fin 128) (q : FVec Ideal S64x128 .bf16) (kn : FVec Ideal S512x128 .bf16) (bb : FVec Ideal S1x1x64x512 .f32)
    (r : Fin 64) (l : Fin 512) (hq : ∀ d, q (ix2 r d) = NaSpec.qry (lat m c) b h R r d)
    (hk : ∀ d, kn (ix2 l d) = NaSpec.key (lat m c) b h R l d) (hbias : bb (ix4 0 0 r l) = NaSpec.bias (rpb m c) h R r l) :
    NaRow.score (mB m c t) q kn bb r l = NaSpec.nscore (lat m c) (rpb m c) b h R r l := by
  unfold NaRow.score NaSpec.nscore
  rw [hbias]
  simp only [hq, hk, blk6 m c t b h s hb hh hs r l]

/-- Its scores with the context tokens likewise. -/
theorem cscore_eq (R : Fin 128) (q : FVec Ideal S64x128 .bf16) (r : Fin 64) (k : Fin 256)
    (hq : ∀ d, q (ix2 r d) = NaSpec.qry (lat m c) b h R r d) :
    NaRow.cscore q (ckB m c t) r k = NaSpec.cscore (lat m c) (ctx m c) b h R r k := by
  unfold NaRow.cscore NaSpec.cscore
  simp only [hq, blk3 m c t b h s hb hh hs]

/-- A key read from the block at a row group's offset. -/
theorem key_eq (R : Fin 128) (u v : ℕ) (hu : u = NaSpec.rs R.val * 64) (hv : v = 0) (l : Fin 512) (d : Fin 128) (p : u + l.val < 8192) (p' : v + d.val < 128) :
    kB m c t (ix2 ⟨u + l.val, p⟩ ⟨v + d.val, p'⟩) = NaSpec.key (lat m c) b h R l d := by
  subst hu hv
  exact (blk1 m c t b h s hb hh hs _ _).trans (lat_congr m c (by show b.val * 8192 + (NaSpec.rs R.val * 64 + l.val) = b.val * 8192 + NaSpec.rs R.val * 64 + l.val; omega)
    (by show 1024 + h.val * 128 + (0 + d.val) = 1024 + h.val * 128 + d.val; omega))

/-- A value read from the block at a row group's offset. -/
theorem vlu_eq (R : Fin 128) (u v : ℕ) (hu : u = NaSpec.rs R.val * 64) (hv : v = 0) (l : Fin 512) (d : Fin 128) (p : u + l.val < 8192) (p' : v + d.val < 128) :
    vB m c t (ix2 ⟨u + l.val, p⟩ ⟨v + d.val, p'⟩) = NaSpec.vlu (lat m c) b h R l d := by
  subst hu hv
  exact (blk2 m c t b h s hb hh hs _ _).trans (lat_congr m c (by show b.val * 8192 + (NaSpec.rs R.val * 64 + l.val) = b.val * 8192 + NaSpec.rs R.val * 64 + l.val; omega)
    (by show 2048 + h.val * 128 + (0 + d.val) = 2048 + h.val * 128 + d.val; omega))

/-- A bias read from the window at a row group's offset. -/
theorem bias_eq (R : Fin 128) (u v w z : ℕ) (hu : u = 0) (hv : v = NaSpec.rs R.val + 7 - R.val) (hw : w = 0) (hz : z = 0) (r : Fin 64) (l : Fin 512)
    (p0 : u < 1) (p1 : v < 8) (p2 : w + r.val < 64) (p3 : z + l.val < 512) :
    bB m c t (ix4 ⟨u, p0⟩ ⟨v, p1⟩ ⟨w + r.val, p2⟩ ⟨z + l.val, p3⟩) = NaSpec.bias (rpb m c) h R r l := by
  subst hu hv hw hz
  refine (blk5 m c t b h s hb hh hs _ _ _).trans ?_
  unfold NaSpec.bias
  have hR : NaSpec.rs R.val + 7 ≥ R.val := by unfold NaSpec.rs; omega
  congr 1
  · exact Fin.ext (by show NaSpec.rs R.val + 7 - R.val + (0 + l.val) / 64 = NaSpec.rs R.val + l.val / 64 + 7 - R.val; rw [Nat.zero_add]; omega)
  · exact Fin.ext (by show min ((0 + l.val) % 64 + 15 - (0 + r.val)) 30 = min (l.val % 64 + 15 - r.val) 30; rw [Nat.zero_add, Nat.zero_add])

set_option maxHeartbeats 1600000 in
/-- One element of the block the kernel leaves at a grid point. -/
theorem block (y : S256x128.Idx) : (outsAt0 m c t y : EReal)
      = NaSpec.out (lat m c) (ctx m c) (rpb m c) b h ⟨s.val * 4 + (y 0).val / 64, by have := ValueIdx.idx2_lt0 y; omega⟩ ⟨(y 0).val % 64, by omega⟩ (y 1) := by
  have o1 := off1 t
  have o2 := off2 t
  rw [hs] at o1 o2
  unfold outsAt0
  frame_out
  canon_tiles x hx
  case piece0 =>
    have o10 := congrFun o1.2.2.2 0
    have o11 := congrFun o1.2.2.2 1
    have o20 := congrFun o2.2.2.2 0
    have o21 := congrFun o2.2.2.2 1
    have o22 := congrFun o2.2.2.2 2
    have o23 := congrFun o2.2.2.2 3
    refine (congrArg _ (eq_ix2 x)).trans ?_
    refine (NaRow.pay_d _ _ _ _ _ _ _ _ _).trans ?_
    have e1 : (⟨s.val * 4 + (y 0).val / 64, by omega⟩ : Fin 128) = ⟨s.val * 4 + 3, by omega⟩ := Fin.ext (by show s.val * 4 + (y 0).val / 64 = s.val * 4 + 3; omega)
    have e2 : (⟨(y 0).val % 64, by omega⟩ : Fin 64) = x 0 := Fin.ext (by show (y 0).val % 64 = (x 0).val; omega)
    have e3 : y 1 = x 1 := Fin.ext hx1
    rw [e1, e2, e3]
    have hq : ∀ d : Fin 128, _ = NaSpec.qry (lat m c) b h ⟨s.val * 4 + 3, by omega⟩ (x 0) d := fun d =>
      (blk0 m c t b h s hb hh hs ⟨192 + (x 0).val, by omega⟩ d).trans (lat_congr m c (by show (b.val * 32 + s.val) * 256 + (192 + (x 0).val) = b.val * 8192 + (s.val * 4 + 3) * 64 + (x 0).val; omega) rfl)
    refine NaSpec.attend_congr (fun l => score_eq m c t b h s hb hh hs _ _ _ _ _ _ (fun d => ?_) (fun d => ?_) ?_) (fun l => ?_)
      (fun k => cscore_eq m c t b h s hb hh hs _ _ _ _ (fun d => ?_)) (fun k => blk4 m c t b h s hb hh hs _ _)
    · pointwise
      exact hq d
    · pointwise
      exact key_eq m c t b h s hb hh hs ⟨s.val * 4 + 3, by omega⟩ _ _ o10 o11 l d _ _
    · pointwise
      exact bias_eq m c t b h s hb hh hs ⟨s.val * 4 + 3, by omega⟩ _ _ _ _ o20 o21 o22 o23 (x 0) l _ _ _ _
    · pointwise
      exact vlu_eq m c t b h s hb hh hs ⟨s.val * 4 + 3, by omega⟩ _ _ o10 o11 l (x 1) _ _
    · pointwise
      exact hq d
  case piece1 =>
    have o10 := congrFun o1.2.2.1 0
    have o11 := congrFun o1.2.2.1 1
    have o20 := congrFun o2.2.2.1 0
    have o21 := congrFun o2.2.2.1 1
    have o22 := congrFun o2.2.2.1 2
    have o23 := congrFun o2.2.2.1 3
    refine (congrArg _ (eq_ix2 x)).trans ?_
    refine (NaRow.pay_c _ _ _ _ _ _ _ _ _).trans ?_
    have e1 : (⟨s.val * 4 + (y 0).val / 64, by omega⟩ : Fin 128) = ⟨s.val * 4 + 2, by omega⟩ := Fin.ext (by show s.val * 4 + (y 0).val / 64 = s.val * 4 + 2; omega)
    have e2 : (⟨(y 0).val % 64, by omega⟩ : Fin 64) = x 0 := Fin.ext (by show (y 0).val % 64 = (x 0).val; omega)
    have e3 : y 1 = x 1 := Fin.ext hx1
    rw [e1, e2, e3]
    have hq : ∀ d : Fin 128, _ = NaSpec.qry (lat m c) b h ⟨s.val * 4 + 2, by omega⟩ (x 0) d := fun d =>
      (blk0 m c t b h s hb hh hs ⟨128 + (x 0).val, by omega⟩ d).trans (lat_congr m c (by show (b.val * 32 + s.val) * 256 + (128 + (x 0).val) = b.val * 8192 + (s.val * 4 + 2) * 64 + (x 0).val; omega) rfl)
    refine NaSpec.attend_congr (fun l => score_eq m c t b h s hb hh hs _ _ _ _ _ _ (fun d => ?_) (fun d => ?_) ?_) (fun l => ?_)
      (fun k => cscore_eq m c t b h s hb hh hs _ _ _ _ (fun d => ?_)) (fun k => blk4 m c t b h s hb hh hs _ _)
    · pointwise
      exact hq d
    · pointwise
      exact key_eq m c t b h s hb hh hs ⟨s.val * 4 + 2, by omega⟩ _ _ o10 o11 l d _ _
    · pointwise
      exact bias_eq m c t b h s hb hh hs ⟨s.val * 4 + 2, by omega⟩ _ _ _ _ o20 o21 o22 o23 (x 0) l _ _ _ _
    · pointwise
      exact vlu_eq m c t b h s hb hh hs ⟨s.val * 4 + 2, by omega⟩ _ _ o10 o11 l (x 1) _ _
    · pointwise
      exact hq d
  case piece2 =>
    have o10 := congrFun o1.2.1 0
    have o11 := congrFun o1.2.1 1
    have o20 := congrFun o2.2.1 0
    have o21 := congrFun o2.2.1 1
    have o22 := congrFun o2.2.1 2
    have o23 := congrFun o2.2.1 3
    refine (congrArg _ (eq_ix2 x)).trans ?_
    refine (NaRow.pay_b _ _ _ _ _ _ _ _ _).trans ?_
    have e1 : (⟨s.val * 4 + (y 0).val / 64, by omega⟩ : Fin 128) = ⟨s.val * 4 + 1, by omega⟩ := Fin.ext (by show s.val * 4 + (y 0).val / 64 = s.val * 4 + 1; omega)
    have e2 : (⟨(y 0).val % 64, by omega⟩ : Fin 64) = x 0 := Fin.ext (by show (y 0).val % 64 = (x 0).val; omega)
    have e3 : y 1 = x 1 := Fin.ext hx1
    rw [e1, e2, e3]
    have hq : ∀ d : Fin 128, _ = NaSpec.qry (lat m c) b h ⟨s.val * 4 + 1, by omega⟩ (x 0) d := fun d =>
      (blk0 m c t b h s hb hh hs ⟨64 + (x 0).val, by omega⟩ d).trans (lat_congr m c (by show (b.val * 32 + s.val) * 256 + (64 + (x 0).val) = b.val * 8192 + (s.val * 4 + 1) * 64 + (x 0).val; omega) rfl)
    refine NaSpec.attend_congr (fun l => score_eq m c t b h s hb hh hs _ _ _ _ _ _ (fun d => ?_) (fun d => ?_) ?_) (fun l => ?_)
      (fun k => cscore_eq m c t b h s hb hh hs _ _ _ _ (fun d => ?_)) (fun k => blk4 m c t b h s hb hh hs _ _)
    · pointwise
      exact hq d
    · pointwise
      exact key_eq m c t b h s hb hh hs ⟨s.val * 4 + 1, by omega⟩ _ _ o10 o11 l d _ _
    · pointwise
      exact bias_eq m c t b h s hb hh hs ⟨s.val * 4 + 1, by omega⟩ _ _ _ _ o20 o21 o22 o23 (x 0) l _ _ _ _
    · pointwise
      exact vlu_eq m c t b h s hb hh hs ⟨s.val * 4 + 1, by omega⟩ _ _ o10 o11 l (x 1) _ _
    · pointwise
      exact hq d
  case piece3 =>
    have o10 := congrFun o1.1 0
    have o11 := congrFun o1.1 1
    have o20 := congrFun o2.1 0
    have o21 := congrFun o2.1 1
    have o22 := congrFun o2.1 2
    have o23 := congrFun o2.1 3
    refine (congrArg _ (eq_ix2 x)).trans ?_
    refine (NaRow.pay_a _ _ _ _ _ _ _ _ _).trans ?_
    have e1 : (⟨s.val * 4 + (y 0).val / 64, by omega⟩ : Fin 128) = ⟨s.val * 4, by omega⟩ := Fin.ext (by show s.val * 4 + (y 0).val / 64 = s.val * 4; omega)
    have e2 : (⟨(y 0).val % 64, by omega⟩ : Fin 64) = x 0 := Fin.ext (by show (y 0).val % 64 = (x 0).val; omega)
    have e3 : y 1 = x 1 := Fin.ext hx1
    rw [e1, e2, e3]
    have hq : ∀ d : Fin 128, _ = NaSpec.qry (lat m c) b h ⟨s.val * 4, by omega⟩ (x 0) d := fun d =>
      (blk0 m c t b h s hb hh hs ⟨(x 0).val, by omega⟩ d).trans (lat_congr m c (by show (b.val * 32 + s.val) * 256 + (x 0).val = b.val * 8192 + (s.val * 4) * 64 + (x 0).val; omega) rfl)
    refine NaSpec.attend_congr (fun l => score_eq m c t b h s hb hh hs _ _ _ _ _ _ (fun d => ?_) (fun d => ?_) ?_) (fun l => ?_)
      (fun k => cscore_eq m c t b h s hb hh hs _ _ _ _ (fun d => ?_)) (fun k => blk4 m c t b h s hb hh hs _ _)
    · pointwise
      exact hq d
    · pointwise
      exact key_eq m c t b h s hb hh hs ⟨s.val * 4, by omega⟩ _ _ o10 o11 l d _ _
    · pointwise
      exact bias_eq m c t b h s hb hh hs ⟨s.val * 4, by omega⟩ _ _ _ _ o20 o21 o22 o23 (x 0) l _ _ _ _
    · pointwise
      exact vlu_eq m c t b h s hb hh hs ⟨s.val * 4, by omega⟩ _ _ o10 o11 l (x 1) _ _
    · pointwise
      exact hq d

end Cert.NaOut

end
-- ==== Proof.NaGather.lean ====
/- The reference attention's three gathers, read at an index. -/
module

public import proofs.«01_k».proof.Proof.Gen.ReferenceIdeal.Read
public import Idealize.ShloMosaic.Lib.Pipeline.ValueKit
public import Idealize.ShloMosaic.Lib.ValueIdxRank6

@[expose] public section

set_option maxRecDepth 16384

noncomputable section

open Idealize.ShloMosaic Idealize.ShloMosaic.TcCoe Idealize.SL.Sem

namespace Cert.NaGather

open Cert.ReferenceIdeal Cert.ReferenceIdeal.Gen

/-- The gather of the key rows of each query row, at an index. -/
theorem gather_rows {α : Type} (x : S2x8x128x64x128.Idx → α) (idx : IVec S128x8x1 32) (b : Fin 2) (h : Fin 8) (r : Fin 128) (o : Fin 8) (k : Fin 64) (d : Fin 128) :
    Host.gather gather_S2x8x128x64x128_S128x8x1_S2x8x128x8x64x128_0145_2_n_n_2_2_28164128 x idx (ix6 b h r o k d) = x (ix5 b h ⟨min (idx (ix3 r o 0)).toInt.toNat 127, by omega⟩ k d) := by
  unfold Host.gather
  congr 1
  funext a
  refine Fin.ext ?_
  show (gather_S2x8x128x64x128_S128x8x1_S2x8x128x8x64x128_0145_2_n_n_2_2_28164128).start _ _ a + (gather_S2x8x128x64x128_S128x8x1_S2x8x128x8x64x128_0145_2_n_n_2_2_28164128).batchCoord _ a + (gather_S2x8x128x64x128_S128x8x1_S2x8x128x8x64x128_0145_2_n_n_2_2_28164128).offCoord _ a = _
  rw [GatherDims.batchCoord_eq_zero _ _ _ (fun h => by simp [gather_S2x8x128x64x128_S128x8x1_S2x8x128x8x64x128_0145_2_n_n_2_2_28164128] at h)]
  have hc : a = 0 ∨ a = 1 ∨ a = 2 ∨ a = 3 ∨ a = 4 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases hc with rfl | rfl | rfl | rfl | rfl
  · unfold GatherDims.start
    rw [dif_neg (show (0 : Fin 5) ∉ (gather_S2x8x128x64x128_S128x8x1_S2x8x128x8x64x128_0145_2_n_n_2_2_28164128).startIndexMap from (by decide : (0 : Fin 5) ∉ [(2 : Fin 5)]))]
    show 0 + 0 + b.val = b.val
    omega
  · unfold GatherDims.start
    rw [dif_neg (show (1 : Fin 5) ∉ (gather_S2x8x128x64x128_S128x8x1_S2x8x128x8x64x128_0145_2_n_n_2_2_28164128).startIndexMap from (by decide : (1 : Fin 5) ∉ [(2 : Fin 5)]))]
    show 0 + 0 + h.val = h.val
    omega
  · rw [GatherDims.offCoord_eq_zero _ _ _ (fun h => ((GatherDims.mem_sKept _ _).mp h).1 (List.mem_singleton.mpr rfl))]
    unfold GatherDims.start
    rw [dif_pos (show (2 : Fin 5) ∈ (gather_S2x8x128x64x128_S128x8x1_S2x8x128x8x64x128_0145_2_n_n_2_2_28164128).startIndexMap from List.mem_singleton.mpr rfl)]
    have hsi : ∀ p, (gather_S2x8x128x64x128_S128x8x1_S2x8x128x8x64x128_0145_2_n_n_2_2_28164128).siIdx (ix6 b h r o k d) ⟨List.idxOf (2 : Fin 5) (gather_S2x8x128x64x128_S128x8x1_S2x8x128x8x64x128_0145_2_n_n_2_2_28164128).startIndexMap, p⟩ = ix3 r o 0 := by
      intro p
      funext b; refine Fin.ext ?_
      match b with
      | ⟨0, _⟩ => rfl
      | ⟨1, _⟩ => rfl
      | ⟨2, _⟩ => rfl
    rw [hsi]
    rfl
  · unfold GatherDims.start
    rw [dif_neg (show (3 : Fin 5) ∉ (gather_S2x8x128x64x128_S128x8x1_S2x8x128x8x64x128_0145_2_n_n_2_2_28164128).startIndexMap from (by decide : (3 : Fin 5) ∉ [(2 : Fin 5)]))]
    show 0 + 0 + k.val = k.val
    omega
  · unfold GatherDims.start
    rw [dif_neg (show (4 : Fin 5) ∉ (gather_S2x8x128x64x128_S128x8x1_S2x8x128x8x64x128_0145_2_n_n_2_2_28164128).startIndexMap from (by decide : (4 : Fin 5) ∉ [(2 : Fin 5)]))]
    show 0 + 0 + d.val = d.val
    omega

/-- The relative-position table's gather along its row offsets, at an index. -/
theorem gather_off {α : Type} (x : S8x15x31.Idx → α) (idx : IVec S128x8x1 32) (h : Fin 8) (r : Fin 128) (o : Fin 8) (j : Fin 31) :
    Host.gather gather_S8x15x31_S128x8x1_S8x128x8x31_03_1_n_n_1_2_8131 x idx (ix4 h r o j) = x (ix3 h ⟨min (idx (ix3 r o 0)).toInt.toNat 14, by omega⟩ j) := by
  unfold Host.gather
  congr 1
  funext a
  refine Fin.ext ?_
  show (gather_S8x15x31_S128x8x1_S8x128x8x31_03_1_n_n_1_2_8131).start _ _ a + (gather_S8x15x31_S128x8x1_S8x128x8x31_03_1_n_n_1_2_8131).batchCoord _ a + (gather_S8x15x31_S128x8x1_S8x128x8x31_03_1_n_n_1_2_8131).offCoord _ a = _
  rw [GatherDims.batchCoord_eq_zero _ _ _ (fun h => by simp [gather_S8x15x31_S128x8x1_S8x128x8x31_03_1_n_n_1_2_8131] at h)]
  have hc : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hc with rfl | rfl | rfl
  · unfold GatherDims.start
    rw [dif_neg (show (0 : Fin 3) ∉ (gather_S8x15x31_S128x8x1_S8x128x8x31_03_1_n_n_1_2_8131).startIndexMap from (by decide : (0 : Fin 3) ∉ [(1 : Fin 3)]))]
    show 0 + 0 + h.val = h.val
    omega
  · rw [GatherDims.offCoord_eq_zero _ _ _ (fun h => ((GatherDims.mem_sKept _ _).mp h).1 (List.mem_singleton.mpr rfl))]
    unfold GatherDims.start
    rw [dif_pos (show (1 : Fin 3) ∈ (gather_S8x15x31_S128x8x1_S8x128x8x31_03_1_n_n_1_2_8131).startIndexMap from List.mem_singleton.mpr rfl)]
    have hsi : ∀ p, (gather_S8x15x31_S128x8x1_S8x128x8x31_03_1_n_n_1_2_8131).siIdx (ix4 h r o j) ⟨List.idxOf (1 : Fin 3) (gather_S8x15x31_S128x8x1_S8x128x8x31_03_1_n_n_1_2_8131).startIndexMap, p⟩ = ix3 r o 0 := by
      intro p
      funext b; refine Fin.ext ?_
      match b with
      | ⟨0, _⟩ => rfl
      | ⟨1, _⟩ => rfl
      | ⟨2, _⟩ => rfl
    rw [hsi]
    rfl
  · unfold GatherDims.start
    rw [dif_neg (show (2 : Fin 3) ∉ (gather_S8x15x31_S128x8x1_S8x128x8x31_03_1_n_n_1_2_8131).startIndexMap from (by decide : (2 : Fin 3) ∉ [(1 : Fin 3)]))]
    show 0 + 0 + j.val = j.val
    omega

/-- Its gather along the column offsets, at an index. -/
theorem gather_col {α : Type} (x : S8x128x8x31.Idx → α) (idx : IVec S64x64x1 32) (h : Fin 8) (r : Fin 128) (o : Fin 8) (q k : Fin 64) :
    Host.gather gather_S8x128x8x31_S64x64x1_S8x128x8x64x64_012_3_n_n_3_2_812881 x idx (ix5 h r o q k) = x (ix4 h r o ⟨min (idx (ix3 q k 0)).toInt.toNat 30, by omega⟩) := by
  unfold Host.gather
  congr 1
  funext a
  refine Fin.ext ?_
  show (gather_S8x128x8x31_S64x64x1_S8x128x8x64x64_012_3_n_n_3_2_812881).start _ _ a + (gather_S8x128x8x31_S64x64x1_S8x128x8x64x64_012_3_n_n_3_2_812881).batchCoord _ a + (gather_S8x128x8x31_S64x64x1_S8x128x8x64x64_012_3_n_n_3_2_812881).offCoord _ a = _
  rw [GatherDims.batchCoord_eq_zero _ _ _ (fun h => by simp [gather_S8x128x8x31_S64x64x1_S8x128x8x64x64_012_3_n_n_3_2_812881] at h)]
  have hc : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hc with rfl | rfl | rfl | rfl
  · unfold GatherDims.start
    rw [dif_neg (show (0 : Fin 4) ∉ (gather_S8x128x8x31_S64x64x1_S8x128x8x64x64_012_3_n_n_3_2_812881).startIndexMap from (by decide : (0 : Fin 4) ∉ [(3 : Fin 4)]))]
    show 0 + 0 + h.val = h.val
    omega
  · unfold GatherDims.start
    rw [dif_neg (show (1 : Fin 4) ∉ (gather_S8x128x8x31_S64x64x1_S8x128x8x64x64_012_3_n_n_3_2_812881).startIndexMap from (by decide : (1 : Fin 4) ∉ [(3 : Fin 4)]))]
    show 0 + 0 + r.val = r.val
    omega
  · unfold GatherDims.start
    rw [dif_neg (show (2 : Fin 4) ∉ (gather_S8x128x8x31_S64x64x1_S8x128x8x64x64_012_3_n_n_3_2_812881).startIndexMap from (by decide : (2 : Fin 4) ∉ [(3 : Fin 4)]))]
    show 0 + 0 + o.val = o.val
    omega
  · rw [GatherDims.offCoord_eq_zero _ _ _ (fun h => ((GatherDims.mem_sKept _ _).mp h).1 (List.mem_singleton.mpr rfl))]
    unfold GatherDims.start
    rw [dif_pos (show (3 : Fin 4) ∈ (gather_S8x128x8x31_S64x64x1_S8x128x8x64x64_012_3_n_n_3_2_812881).startIndexMap from List.mem_singleton.mpr rfl)]
    have hsi : ∀ p, (gather_S8x128x8x31_S64x64x1_S8x128x8x64x64_012_3_n_n_3_2_812881).siIdx (ix5 h r o q k) ⟨List.idxOf (3 : Fin 4) (gather_S8x128x8x31_S64x64x1_S8x128x8x64x64_012_3_n_n_3_2_812881).startIndexMap, p⟩ = ix3 q k 0 := by
      intro p
      funext b; refine Fin.ext ?_
      match b with
      | ⟨0, _⟩ => rfl
      | ⟨1, _⟩ => rfl
      | ⟨2, _⟩ => rfl
    rw [hsi]
    rfl

end Cert.NaGather

end
-- ==== Proof.NaInt.lean ====
/- The reference attention's integer tables, in closed form. -/
module

public import proofs.«01_k».proof.Proof.NaGather
public import proofs.«01_k».proof.Proof.NaSpec

@[expose] public section

set_option maxRecDepth 16384

noncomputable section

open Idealize.ShloMosaic Idealize.ShloMosaic.TcCoe Idealize.SL.Sem

namespace Cert.NaInt

open Cert.ReferenceIdeal Cert.ReferenceIdeal.Gen Cert.ReferenceIdeal.Read

/-- The key row read for a query row and an offset. -/
theorem rows : ∀ (r : Fin 128) (o : Fin 8), (val_main_v54 (F := Ideal) (ix3 r o 0)).toInt.toNat = NaSpec.rs r.val + o.val := by
  pointwise [val_main_c, val_main_v22, val_main_v23, val_main_v20, val_main_c_0, val_main_c_1, val_main_call0_v0, val_main_call0_v1, val_main_call0_v2, val_main_call0_v3, val_main_call0_v4, val_main_v24, val_main_v25, val_main_v26, val_main_v27, val_main_v28, val_main_v29, val_main_v30, val_main_c_6, val_main_v49, val_main_v50, val_main_c_7, val_main_v51, val_main_v52, val_main_v53, val_main_v54]
  decide +kernel

/-- The same, for the values. -/
theorem rows' : ∀ (r : Fin 128) (o : Fin 8), (val_main_v62 (F := Ideal) (ix3 r o 0)).toInt.toNat = NaSpec.rs r.val + o.val := by
  pointwise [val_main_c, val_main_v22, val_main_v23, val_main_v20, val_main_c_0, val_main_c_1, val_main_call0_v0, val_main_call0_v1, val_main_call0_v2, val_main_call0_v3, val_main_call0_v4, val_main_v24, val_main_v25, val_main_v26, val_main_v27, val_main_v28, val_main_v29, val_main_v30, val_main_c_8, val_main_v57, val_main_v58, val_main_c_9, val_main_v59, val_main_v60, val_main_v61, val_main_v62]
  decide +kernel

/-- Whether a key column is in the window of a query column. -/
theorem cols : ∀ (q k : Fin 64), val_main_v46 (F := Ideal) (ix2 q k) = if NaSpec.inWin q.val k.val then 1#1 else 0#1 := by
  pointwise [val_main_v21, val_main_c_2, val_main_v31, val_main_v32, val_main_c_3, val_main_c_4, val_main_call1_v0, val_main_call1_v1, val_main_call1_v2, val_main_call1_v3, val_main_call1_v4, val_main_v33, val_main_v34, val_main_v35, val_main_v36, val_main_v37, val_main_v38, val_main_v39, val_main_v40, val_main_c_5, val_main_v41, val_main_v42, val_main_v43, val_main_v44, val_main_v45, val_main_v46]
  decide +kernel

/-- The row offset of a key row in the relative-position table. -/
theorem offs : ∀ (r : Fin 128) (o : Fin 8), (val_main_v87 (F := Ideal) (ix3 r o 0)).toInt.toNat = NaSpec.rs r.val + o.val + 7 - r.val := by
  pointwise [val_main_c, val_main_v22, val_main_v23, val_main_v20, val_main_c_0, val_main_c_1, val_main_call0_v0, val_main_call0_v1, val_main_call0_v2, val_main_call0_v3, val_main_call0_v4, val_main_v24, val_main_v25, val_main_v26, val_main_v27, val_main_v28, val_main_v29, val_main_v30, val_main_v65, val_main_v66, val_main_v67, val_main_c_10, val_main_v68, val_main_v69, val_main_c_11, val_main_v70, val_main_v71, val_main_c_16, val_main_v82, val_main_v83, val_main_c_17, val_main_v84, val_main_v85, val_main_v86, val_main_v87]
  decide +kernel

/-- The column offset of a key column in the relative-position table. -/
theorem coffs : ∀ (q k : Fin 64), (val_main_v94 (F := Ideal) (ix3 q k 0)).toInt.toNat = min (k.val + 15 - q.val) 30 := by
  pointwise [val_main_v21, val_main_v72, val_main_v73, val_main_v74, val_main_v75, val_main_v76, val_main_c_12, val_main_v77, val_main_v78, val_main_c_13, val_main_v79, val_main_v80, val_main_c_14, val_main_c_15, val_main_call2_v0, val_main_call2_v1, val_main_call2_v2, val_main_call2_v3, val_main_call2_v4, val_main_v81, val_main_c_18, val_main_v89, val_main_v90, val_main_c_19, val_main_v91, val_main_v92, val_main_v93, val_main_v94]
  decide +kernel

end Cert.NaInt

end
-- ==== Proof.NaScore.lean ====
/- The reference attention's scores and values, in plain terms. -/
module

public import proofs.«01_k».proof.Proof.NaInt

@[expose] public section

set_option maxRecDepth 16384

noncomputable section

open Idealize.ShloMosaic Idealize.ShloMosaic.TcCoe Idealize.SL.Sem

namespace Cert.NaScore

open Cert.ReferenceIdeal Cert.ReferenceIdeal.Gen Cert.ReferenceIdeal.Read

variable (x0 : FVec Ideal S16384x3072 .bf16) (x1 : FVec Ideal S512x3072 .bf16) (x2 : FVec Ideal S8x15x31 .f32)

/-- The packed activations, by row and column. -/
def lat (i : Fin 16384) (j : Fin 3072) : EReal := x0 (ix2 i j)
/-- The packed context, by row and column. -/
def ctx (i : Fin 512) (j : Fin 3072) : EReal := x1 (ix2 i j)
/-- The relative-position table. -/
def rpb (h : Fin 8) (i : Fin 15) (j : Fin 31) : EReal := x2 (ix3 h i j)

/-- The reference's queries. -/
theorem qry_eq (b : Fin 2) (h : Fin 8) (r : Fin 128) (q : Fin 64) (d : Fin 128) :
    val_main_v47 (F := Ideal) x0 (ix5 b h r q d) = NaSpec.qry (lat x0) b h r q d := by
  unfold NaSpec.qry lat
  pointwise [val_main_v47, val_main_v6, val_main_v5, val_main_v2, val_main_v0]
  exact congrArg x0 (congrArg₂ ix2 (Fin.ext (by simp only; omega)) (Fin.ext (by simp only)))

/-- The reference's keys, row by row. -/
theorem keys_eq (b : Fin 2) (h : Fin 8) (r : Fin 128) (k : Fin 64) (d : Fin 128) :
    val_main_v48 (F := Ideal) x0 (ix5 b h r k d) = lat x0 ⟨b.val * 8192 + r.val * 64 + k.val, by omega⟩ ⟨1024 + h.val * 128 + d.val, by omega⟩ := by
  unfold lat
  pointwise [val_main_v48, val_main_v8, val_main_v7, val_main_v3, val_main_v0]
  exact congrArg x0 (congrArg₂ ix2 (Fin.ext (by simp only; try omega)) (Fin.ext (by simp only; try omega)))

/-- The reference's values, row by row. -/
theorem vlus_eq (b : Fin 2) (h : Fin 8) (r : Fin 128) (k : Fin 64) (d : Fin 128) :
    val_main_v56 (F := Ideal) x0 (ix5 b h r k d) = lat x0 ⟨b.val * 8192 + r.val * 64 + k.val, by omega⟩ ⟨2048 + h.val * 128 + d.val, by omega⟩ := by
  unfold lat
  pointwise [val_main_v56, val_main_v10, val_main_v9, val_main_v4, val_main_v0]
  exact congrArg x0 (congrArg₂ ix2 (Fin.ext (by simp only; try omega)) (Fin.ext (by simp only; try omega)))

/-- The reference's context keys. -/
theorem ckey_eq (b : Fin 2) (h : Fin 8) (k : Fin 256) (d : Fin 128) :
    val_main_v17 (F := Ideal) x1 (ix4 b h k d) = NaSpec.ckey (ctx x1) b h k d := by
  unfold NaSpec.ckey ctx
  pointwise [val_main_v17, val_main_v16, val_main_v12, val_main_v1]
  exact congrArg x1 (congrArg₂ ix2 (Fin.ext (by simp only; try omega)) (Fin.ext (by simp only; try omega)))

/-- The reference's context values. -/
theorem cvlu_eq (b : Fin 2) (h : Fin 8) (k : Fin 256) (d : Fin 128) :
    val_main_v19 (F := Ideal) x1 (ix4 b h k d) = NaSpec.cvlu (ctx x1) b h k d := by
  unfold NaSpec.cvlu ctx
  pointwise [val_main_v19, val_main_v18, val_main_v13, val_main_v1]
  exact congrArg x1 (congrArg₂ ix2 (Fin.ext (by simp only; try omega)) (Fin.ext (by simp only; try omega)))

/-- The keys gathered for a query row. -/
theorem key_eq (b : Fin 2) (h : Fin 8) (r : Fin 128) (o : Fin 8) (k : Fin 64) (d : Fin 128) :
    val_main_v55 (F := Ideal) x0 (ix6 b h r o k d) = NaSpec.key (lat x0) b h r ⟨o.val * 64 + k.val, by omega⟩ d := by
  unfold val_main_v55
  rw [NaGather.gather_rows]
  generalize hn : (⟨min (val_main_v54 (F := Ideal) (ix3 r o 0)).toInt.toNat 127, _⟩ : Fin 128) = n
  have hv : n.val = min (NaSpec.rs r.val + o.val) 127 := by
    rw [← hn]
    exact congrArg (fun t => min t 127) (NaInt.rows r o)
  rw [keys_eq]
  have hr := NaSpec.rs_le r.val
  unfold NaSpec.key
  exact congrArg (fun i => lat x0 i _) (Fin.ext (by simp only; omega))

/-- The values gathered for a query row. -/
theorem vlu_eq (b : Fin 2) (h : Fin 8) (r : Fin 128) (o : Fin 8) (k : Fin 64) (d : Fin 128) :
    val_main_v63 (F := Ideal) x0 (ix6 b h r o k d) = NaSpec.vlu (lat x0) b h r ⟨o.val * 64 + k.val, by omega⟩ d := by
  unfold val_main_v63
  rw [NaGather.gather_rows]
  generalize hn : (⟨min (val_main_v62 (F := Ideal) (ix3 r o 0)).toInt.toNat 127, _⟩ : Fin 128) = n
  have hv : n.val = min (NaSpec.rs r.val + o.val) 127 := by
    rw [← hn]
    exact congrArg (fun t => min t 127) (NaInt.rows' r o)
  rw [vlus_eq]
  have hr := NaSpec.rs_le r.val
  unfold NaSpec.vlu
  exact congrArg (fun i => lat x0 i _) (Fin.ext (by simp only; omega))

/-- The bias gathered for a query and a key. -/
theorem bias_eq (b : Fin 2) (h : Fin 8) (r : Fin 128) (q : Fin 64) (o : Fin 8) (k : Fin 64) :
    val_main_v99 (F := Ideal) x2 (ix6 b h r q o k) = NaSpec.bias (rpb x2) h r q ⟨o.val * 64 + k.val, by omega⟩ := by
  have e : val_main_v99 (F := Ideal) x2 (ix6 b h r q o k) = val_main_v95 (F := Ideal) x2 (ix5 h r o q k) := by
    refine (val_main_v99_apply (F := Ideal) x2 _).trans ((val_main_v98_apply (F := Ideal) x2 _).trans ((val_main_v96_apply (F := Ideal) x2 _).trans ?_))
    exact congrArg (val_main_v95 (F := Ideal) x2) (funext fun a => by match a with | ⟨0, _⟩ => rfl | ⟨1, _⟩ => rfl | ⟨2, _⟩ => rfl | ⟨3, _⟩ => rfl | ⟨4, _⟩ => rfl)
  refine e.trans ?_
  unfold val_main_v95
  rw [NaGather.gather_col]
  generalize hn : (⟨min (val_main_v94 (F := Ideal) (ix3 q k 0)).toInt.toNat 30, _⟩ : Fin 31) = n
  have hv : n.val = min (min (k.val + 15 - q.val) 30) 30 := by
    rw [← hn]
    exact congrArg (fun t => min t 30) (NaInt.coffs q k)
  unfold val_main_v88
  rw [NaGather.gather_off]
  generalize hm : (⟨min (val_main_v87 (F := Ideal) (ix3 r o 0)).toInt.toNat 14, _⟩ : Fin 15) = p
  have hw : p.val = min (NaSpec.rs r.val + o.val + 7 - r.val) 14 := by
    rw [← hm]
    exact congrArg (fun t => min t 14) (NaInt.offs r o)
  unfold NaSpec.bias rpb
  have hr : NaSpec.rs r.val + 7 ≥ r.val := by unfold NaSpec.rs; omega
  have hr' : NaSpec.rs r.val ≤ r.val := by unfold NaSpec.rs; omega
  exact congrArg x2 (congrArg₂ (ix3 h) (Fin.ext (by simp only; omega)) (Fin.ext (by simp only; omega)))

/-- The reference's masked score. -/
theorem score_eq (b : Fin 2) (h : Fin 8) (r : Fin 128) (q : Fin 64) (o : Fin 8) (k : Fin 64) :
    val_main_v101 (F := Ideal) x0 x2 (ix6 b h r q o k) = NaSpec.nscore (lat x0) (rpb x2) b h r q ⟨o.val * 64 + k.val, by omega⟩ := by
  have hm : val_main_call3_v1 (F := Ideal) (ix6 b h r q o k) = if NaSpec.inWin q.val k.val then 1#1 else 0#1 := by
    rw [val_main_call3_v1_apply, val_main_v97_apply, ← NaInt.cols]
    rfl
  have hk : (o.val * 64 + k.val) % 64 = k.val := by omega
  rw [val_main_v101_apply, val_main_v100_apply, val_main_v64_apply, bias_eq, hm]
  unfold NaSpec.nscore
  show _ = if NaSpec.inWin q.val ((o.val * 64 + k.val) % 64) then _ else _
  rw [hk]
  have hs : ∀ d : Fin 128, val_main_v47 (F := Ideal) x0 (lidx_main_v64 (ix6 b h r q o k) d) * val_main_v55 (F := Ideal) x0 (ridx_main_v64 (ix6 b h r q o k) d)
      = NaSpec.qry (lat x0) b h r q d * NaSpec.key (lat x0) b h r ⟨o.val * 64 + k.val, by omega⟩ d := fun d => by
    rw [← qry_eq, ← key_eq]
    refine congrArg₂ (· * ·) ?_ ?_
    · exact congrArg (val_main_v47 (F := Ideal) x0) (funext fun a => by match a with | ⟨0, _⟩ => rfl | ⟨1, _⟩ => rfl | ⟨2, _⟩ => rfl | ⟨3, _⟩ => rfl | ⟨4, _⟩ => rfl)
    · exact congrArg (val_main_v55 (F := Ideal) x0) (funext fun a => by match a with | ⟨0, _⟩ => rfl | ⟨1, _⟩ => rfl | ⟨2, _⟩ => rfl | ⟨3, _⟩ => rfl | ⟨4, _⟩ => rfl | ⟨5, _⟩ => rfl)
  rw [Finset.sum_congr rfl fun d _ => hs d]
  by_cases hw : NaSpec.inWin q.val k.val
  · simp only [if_pos hw]
    rfl
  · simp only [if_neg hw]
    rfl

/-- The reference's score with a context token. -/
theorem cscore_eq (b : Fin 2) (h : Fin 8) (r : Fin 128) (q : Fin 64) (k : Fin 256) :
    val_main_v103 (F := Ideal) x0 x1 (ix5 b h r q k) = NaSpec.cscore (lat x0) (ctx x1) b h r q k := by
  rw [val_main_v103_apply]
  unfold NaSpec.cscore
  refine Finset.sum_congr rfl fun d _ => ?_
  rw [← qry_eq, ← ckey_eq]
  refine congrArg₂ (· * ·) ?_ ?_
  · exact congrArg (val_main_v47 (F := Ideal) x0) (funext fun a => by match a with | ⟨0, _⟩ => rfl | ⟨1, _⟩ => rfl | ⟨2, _⟩ => rfl | ⟨3, _⟩ => rfl | ⟨4, _⟩ => rfl)
  · exact congrArg (val_main_v17 (F := Ideal) x1) (funext fun a => by match a with | ⟨0, _⟩ => rfl | ⟨1, _⟩ => rfl | ⟨2, _⟩ => rfl | ⟨3, _⟩ => rfl)

/-- The masked scores, the eight rows side by side. -/
theorem scores_eq (b : Fin 2) (h : Fin 8) (r : Fin 128) (q : Fin 64) (l : Fin 512) :
    val_main_v102 (F := Ideal) x0 x2 (ix5 b h r q l) = NaSpec.nscore (lat x0) (rpb x2) b h r q l := by
  have e : val_main_v102 (F := Ideal) x0 x2 (ix5 b h r q l) = val_main_v101 (F := Ideal) x0 x2 (ix6 b h r q ⟨l.val / 64, by omega⟩ ⟨l.val % 64, by omega⟩) := by
    unfold val_main_v102
    refine shapeCast_apply _ _ _ _ ?_
    rw [Shape.rowMajor_val_six, Shape.rowMajor_val_five]
    show ((((b.val * 8 + h.val) * 128 + r.val) * 64 + q.val) * 8 + l.val / 64) * 64 + l.val % 64 = (((b.val * 8 + h.val) * 128 + r.val) * 64 + q.val) * 512 + l.val
    omega
  rw [e, score_eq]
  exact congrArg _ (Fin.ext (by show l.val / 64 * 64 + l.val % 64 = l.val; omega))

/-- The gathered values, the eight rows one after the other. -/
theorem values_eq (b : Fin 2) (h : Fin 8) (r : Fin 128) (l : Fin 512) (d : Fin 128) :
    val_main_v117 (F := Ideal) x0 (ix5 b h r l d) = NaSpec.vlu (lat x0) b h r l d := by
  have e : val_main_v117 (F := Ideal) x0 (ix5 b h r l d) = val_main_v63 (F := Ideal) x0 (ix6 b h r ⟨l.val / 64, by omega⟩ ⟨l.val % 64, by omega⟩ d) := by
    unfold val_main_v117
    refine shapeCast_apply _ _ _ _ ?_
    rw [Shape.rowMajor_val_six, Shape.rowMajor_val_five]
    show ((((b.val * 8 + h.val) * 128 + r.val) * 8 + l.val / 64) * 64 + l.val % 64) * 128 + d.val = (((b.val * 8 + h.val) * 128 + r.val) * 512 + l.val) * 128 + d.val
    omega
  rw [e, vlu_eq]
  exact congrArg (fun n => NaSpec.vlu (lat x0) b h r n d) (Fin.ext (by show l.val / 64 * 64 + l.val % 64 = l.val; omega))

end Cert.NaScore

end
-- ==== Proof.NaRef.lean ====
/- The reference attention read at one result: each weight divided by the sum of the weights, then summed. -/
module

public import proofs.«01_k».proof.Proof.NaScore
public import proofs.«01_k».proof.Proof.NaSoft
public import Idealize.ShloMosaic.PureOps.Ideal.Laws

@[expose] public section

set_option maxRecDepth 16384

noncomputable section

open Idealize.ShloMosaic Idealize.ShloMosaic.TcCoe Idealize.SL.Sem

namespace Cert.NaRef

open Cert.ReferenceIdeal Cert.ReferenceIdeal.Gen Cert.ReferenceIdeal.Read

variable (x0 : FVec Ideal S16384x3072 .bf16) (x1 : FVec Ideal S512x3072 .bf16) (x2 : FVec Ideal S8x15x31 .f32)

/-- Two lists of scores, one after the other. -/
def joined (s : Fin 512 → EReal) (u : Fin 256 → EReal) (j : Fin 768) : EReal :=
  if h : j.val < 512 then s ⟨j.val, h⟩ else u ⟨j.val - 512, by omega⟩

/-- A sum over both lists is the two sums. -/
theorem sum_joined (f : Fin 768 → EReal) :
    (∑ j, f j) = (∑ l : Fin 512, f ⟨l.val, by omega⟩) + ∑ c : Fin 256, f ⟨512 + c.val, by omega⟩ :=
  Fin.sum_univ_add (a := 512) (b := 256) f

/-- The first list read out of both. -/
theorem joined_lo (s : Fin 512 → EReal) (u : Fin 256 → EReal) (l : Fin 512) : joined s u ⟨l.val, by omega⟩ = s l := by
  unfold joined
  rw [dif_pos (show (⟨l.val, by omega⟩ : Fin 768).val < 512 from l.isLt)]

/-- The second list read out of both. -/
theorem joined_hi (s : Fin 512 → EReal) (u : Fin 256 → EReal) (c : Fin 256) : joined s u ⟨512 + c.val, by omega⟩ = u c := by
  unfold joined
  rw [dif_neg (by simp only; omega)]
  exact congrArg u (Fin.ext (by simp only; omega))

/-- The largest of both lists is the larger of the two largest. -/
theorem top_joined (s : Fin 512 → EReal) (u : Fin 256 → EReal) :
    NaSoft.top (joined s u) = max (NaSoft.top s) (NaSoft.top u) := by
  rw [NaSoft.top_eq, NaSoft.top_eq, NaSoft.top_eq]
  refine le_antisymm (Finset.sup_le fun j _ => ?_) (max_le (Finset.sup_le fun l _ => ?_) (Finset.sup_le fun c _ => ?_))
  · unfold joined
    by_cases h : j.val < 512
    · rw [dif_pos h]
      exact le_max_of_le_left (Finset.le_sup (f := s) (Finset.mem_univ _))
    · rw [dif_neg h]
      exact le_max_of_le_right (Finset.le_sup (f := u) (Finset.mem_univ _))
  · rw [← joined_lo s u l]
    exact Finset.le_sup (f := joined s u) (Finset.mem_univ _)
  · rw [← joined_hi s u c]
    exact Finset.le_sup (f := joined s u) (Finset.mem_univ _)

/-- The neighbourhood scores of one query. -/
abbrev S (b : Fin 2) (h : Fin 8) (r : Fin 128) (q : Fin 64) : Fin 512 → EReal :=
  NaSpec.nscore (NaScore.lat x0) (NaScore.rpb x2) b h r q
/-- The context scores of one query. -/
abbrev U (b : Fin 2) (h : Fin 8) (r : Fin 128) (q : Fin 64) : Fin 256 → EReal :=
  NaSpec.cscore (NaScore.lat x0) (NaScore.ctx x1) b h r q
/-- The largest score of one query. -/
abbrev M (b : Fin 2) (h : Fin 8) (r : Fin 128) (q : Fin 64) : EReal :=
  max (NaSoft.top (S x0 x2 b h r q)) (NaSoft.top (U x0 x1 b h r q))
/-- The sum of the weights of one query. -/
abbrev D (b : Fin 2) (h : Fin 8) (r : Fin 128) (q : Fin 64) : EReal :=
  (∑ l, Ideal.exp (S x0 x2 b h r q l - M x0 x1 x2 b h r q)) + ∑ c, Ideal.exp (U x0 x1 b h r q c - M x0 x1 x2 b h r q)

/-- The reference's scores are the two lists, one after the other. -/
theorem joined_eq (b : Fin 2) (h : Fin 8) (r : Fin 128) (q : Fin 64) (j : Fin 768) :
    val_main_v104 (F := Ideal) x0 x1 x2 (ix5 b h r q j) = joined (S x0 x2 b h r q) (U x0 x1 b h r q) j := by
  unfold val_main_v104 joined
  by_cases hj : j.val < 512
  · rw [dif_pos hj]
    refine Eq.trans ?_ (NaScore.scores_eq x0 x2 b h r q ⟨j.val, hj⟩)
    generalize val_main_v102 (F := Ideal) x0 x2 = A
    generalize val_main_v103 (F := Ideal) x0 x1 = B
    pointwise []
    rw [dif_pos hj]
  · rw [dif_neg hj]
    refine Eq.trans ?_ (NaScore.cscore_eq x0 x1 b h r q ⟨j.val - 512, by omega⟩)
    generalize val_main_v102 (F := Ideal) x0 x2 = A
    generalize val_main_v103 (F := Ideal) x0 x1 = B
    pointwise []
    rw [dif_neg hj]

/-- The reference's largest score. -/
theorem max_eq (b : Fin 2) (h : Fin 8) (r : Fin 128) (q : Fin 64) :
    val_main_v107 (F := Ideal) x0 x1 x2 (ix4 b h r q) = M x0 x1 x2 b h r q := by
  have e : val_main_v105 (F := Ideal) x0 x1 x2 (ix4 b h r q) = NaSoft.top (joined (S x0 x2 b h r q) (U x0 x1 b h r q)) := by
    unfold val_main_v105
    have hj : ∀ j : Fin 768, val_main_v104 (F := Ideal) x0 x1 x2 (ix5 b h r q j) = _ := joined_eq x0 x1 x2 b h r q
    generalize val_main_v104 (F := Ideal) x0 x1 x2 = A at hj
    rw [Host.reduce_eq_fold_single _ _ _ reducesTo_S2x8x128x64x768_S2x8x128x64_d4 (by decide) h_S_]
    unfold NaSoft.top
    refine Finset.fold_congr (s := (Finset.univ : Finset (Fin 768))) fun j _ => ?_
    rw [← hj]
    exact congrArg A (funext fun a => Fin.ext (by match a with | ⟨0, _⟩ => rfl | ⟨1, _⟩ => rfl | ⟨2, _⟩ => rfl | ⟨3, _⟩ => rfl | ⟨4, _⟩ => rfl))
  have e0 : val_main_v106 (F := Ideal) (ix4 b h r q) = (⊥ : EReal) := by
    rw [val_main_v106_apply]
    exact NaSoft.ofBits_bot
  rw [val_main_v107_apply, e, e0, top_joined]
  exact max_eq_right bot_le

/-- The reference's weight. -/
theorem weight_eq (b : Fin 2) (h : Fin 8) (r : Fin 128) (q : Fin 64) (j : Fin 768) :
    val_main_v111 (F := Ideal) x0 x1 x2 (ix5 b h r q j)
      = Ideal.exp (joined (S x0 x2 b h r q) (U x0 x1 b h r q) j - M x0 x1 x2 b h r q) := by
  have e : val_main_v109 (F := Ideal) x0 x1 x2 (ix5 b h r q j) = M x0 x1 x2 b h r q := by
    refine (val_main_v109_apply (F := Ideal) x0 x1 x2 _).trans ((val_main_v108_apply (F := Ideal) x0 x1 x2 _).trans (Eq.trans ?_ (max_eq x0 x1 x2 b h r q)))
    exact congrArg (val_main_v107 (F := Ideal) x0 x1 x2) (funext fun a => by match a with | ⟨0, _⟩ => rfl | ⟨1, _⟩ => rfl | ⟨2, _⟩ => rfl | ⟨3, _⟩ => rfl)
  rw [val_main_v111_apply, val_main_v110_apply, e, joined_eq]
  rfl

/-- The reference's sum of the weights. -/
theorem total_eq (b : Fin 2) (h : Fin 8) (r : Fin 128) (q : Fin 64) :
    val_main_v112 (F := Ideal) x0 x1 x2 (ix4 b h r q) = D x0 x1 x2 b h r q := by
  have hw : ∀ j : Fin 768, val_main_v111 (F := Ideal) x0 x1 x2 (idx_main_v112 (ix4 b h r q) j)
      = Ideal.exp (joined (S x0 x2 b h r q) (U x0 x1 b h r q) j - M x0 x1 x2 b h r q) := fun j => by
    rw [← weight_eq]
    exact congrArg (val_main_v111 (F := Ideal) x0 x1 x2) (funext fun a => by match a with | ⟨0, _⟩ => rfl | ⟨1, _⟩ => rfl | ⟨2, _⟩ => rfl | ⟨3, _⟩ => rfl | ⟨4, _⟩ => rfl)
  have h0 : val_main_cst_22 (F := Ideal) (Shape.Idx.first h_S_) = (0 : EReal) := Ideal.ofBits_zero .f32
  rw [val_main_v112_apply, h0, zero_add, Finset.sum_congr rfl fun j _ => hw j, sum_joined]
  simp only [joined_lo, joined_hi]

/-- The reference's weight over the sum. -/
theorem share_eq (b : Fin 2) (h : Fin 8) (r : Fin 128) (q : Fin 64) (j : Fin 768) :
    val_main_v115 (F := Ideal) x0 x1 x2 (ix5 b h r q j)
      = Ideal.div (Ideal.exp (joined (S x0 x2 b h r q) (U x0 x1 b h r q) j - M x0 x1 x2 b h r q)) (D x0 x1 x2 b h r q) := by
  have e : val_main_v114 (F := Ideal) x0 x1 x2 (ix5 b h r q j) = D x0 x1 x2 b h r q := by
    refine (val_main_v114_apply (F := Ideal) x0 x1 x2 _).trans ((val_main_v113_apply (F := Ideal) x0 x1 x2 _).trans (Eq.trans ?_ (total_eq x0 x1 x2 b h r q)))
    exact congrArg (val_main_v112 (F := Ideal) x0 x1 x2) (funext fun a => by match a with | ⟨0, _⟩ => rfl | ⟨1, _⟩ => rfl | ⟨2, _⟩ => rfl | ⟨3, _⟩ => rfl)
  rw [val_main_v115_apply, e, weight_eq]
  rfl

/-- The reference's attention at one query and one column. -/
theorem normed_eq (b : Fin 2) (h : Fin 8) (r : Fin 128) (q : Fin 64) (x : Fin 128) :
    val_main_v121 (F := Ideal) x0 x1 x2 (ix5 b h r q x)
      = NaSoft.normed (S x0 x2 b h r q) (fun l => NaSpec.vlu (NaScore.lat x0) b h r l x) (U x0 x1 b h r q)
          (fun c => NaSpec.cvlu (NaScore.ctx x1) b h c x) (M x0 x1 x2 b h r q) (D x0 x1 x2 b h r q) := by
  have hl : ∀ l : Fin 512, val_main_v116 (F := Ideal) x0 x1 x2 (lidx_main_v118 (ix5 b h r q x) l) * val_main_v117 (F := Ideal) x0 (ridx_main_v118 (ix5 b h r q x) l)
      = Ideal.div (Ideal.exp (S x0 x2 b h r q l - M x0 x1 x2 b h r q)) (D x0 x1 x2 b h r q) * NaSpec.vlu (NaScore.lat x0) b h r l x := fun l => by
    rw [← NaScore.values_eq, ← joined_lo (S x0 x2 b h r q) (U x0 x1 b h r q) l, ← share_eq, val_main_v116_apply]
    refine congrArg₂ (· * ·) ?_ ?_
    · exact congrArg (val_main_v115 (F := Ideal) x0 x1 x2) (funext fun a => by match a with | ⟨0, _⟩ => rfl | ⟨1, _⟩ => rfl | ⟨2, _⟩ => rfl | ⟨3, _⟩ => rfl | ⟨4, _⟩ => rfl)
    · exact congrArg (val_main_v117 (F := Ideal) x0) (funext fun a => by match a with | ⟨0, _⟩ => rfl | ⟨1, _⟩ => rfl | ⟨2, _⟩ => rfl | ⟨3, _⟩ => rfl | ⟨4, _⟩ => rfl)
  have hc : ∀ c : Fin 256, val_main_v119 (F := Ideal) x0 x1 x2 (lidx_main_v120 (ix5 b h r q x) c) * val_main_v19 (F := Ideal) x1 (ridx_main_v120 (ix5 b h r q x) c)
      = Ideal.div (Ideal.exp (U x0 x1 b h r q c - M x0 x1 x2 b h r q)) (D x0 x1 x2 b h r q) * NaSpec.cvlu (NaScore.ctx x1) b h c x := fun c => by
    rw [← NaScore.cvlu_eq, ← joined_hi (S x0 x2 b h r q) (U x0 x1 b h r q) c, ← share_eq, val_main_v119_apply]
    refine congrArg₂ (· * ·) ?_ ?_
    · exact congrArg (val_main_v115 (F := Ideal) x0 x1 x2) (funext fun a => by match a with | ⟨0, _⟩ => rfl | ⟨1, _⟩ => rfl | ⟨2, _⟩ => rfl | ⟨3, _⟩ => rfl | ⟨4, _⟩ => rfl)
    · exact congrArg (val_main_v19 (F := Ideal) x1) (funext fun a => by match a with | ⟨0, _⟩ => rfl | ⟨1, _⟩ => rfl | ⟨2, _⟩ => rfl | ⟨3, _⟩ => rfl)
  rw [val_main_v121_apply, val_main_v118_apply, val_main_v120_apply, Finset.sum_congr rfl fun l _ => hl l, Finset.sum_congr rfl fun c _ => hc c]
  rfl

/-- The reference's result, back in rows and columns. -/
theorem result_eq (i : S16384x1024.Idx) (b : Fin 2) (h : Fin 8) (r : Fin 128) (q : Fin 64) (x : Fin 128)
    (hi : (i 0).val = b.val * 8192 + r.val * 64 + q.val) (hj : (i 1).val = h.val * 128 + x.val) :
    val_main_v125 (F := Ideal) x0 x1 x2 i = val_main_v121 (F := Ideal) x0 x1 x2 (ix5 b h r q x) := by
  refine (val_main_v125_apply (F := Ideal) x0 x1 x2 _).trans ?_
  show val_main_v124 (F := Ideal) x0 x1 x2 i = _
  unfold val_main_v124
  refine (shapeCast_apply _ _ i (ix4 b (⟨r.val * 64 + q.val, by omega⟩ : Fin 8192) h x) ?_).trans ?_
  · rw [Shape.rowMajor_val_four, Shape.rowMajor_val_two]
    show ((b.val * 8192 + (r.val * 64 + q.val)) * 8 + h.val) * 128 + x.val = (i 0).val * 1024 + (i 1).val
    omega
  refine (val_main_v123_apply (F := Ideal) x0 x1 x2 _).trans ?_
  unfold val_main_v122
  refine shapeCast_apply _ _ _ _ ?_
  rw [Shape.rowMajor_val_five, Shape.rowMajor_val_four]
  show (((b.val * 8 + h.val) * 128 + r.val) * 64 + q.val) * 128 + x.val = ((b.val * 8 + h.val) * 8192 + (r.val * 64 + q.val)) * 128 + x.val
  omega

end Cert.NaRef

end
-- ==== Proof.NaPre.lean ====
/- What the precondition gives: queries, keys and biases that are real numbers, so every score is one. -/
module

public import proofs.«01_k».proof.Defs
public import proofs.«01_k».proof.Proof.Gen.Pre_finite_scores
public import proofs.«01_k».proof.Proof.NaSpec
public import Idealize.ShloMosaic.Lib.ReduceAll

@[expose] public section

set_option maxRecDepth 16384

noncomputable section

open Idealize.ShloMosaic Idealize.ShloMosaic.TcCoe Idealize.SL.Sem

namespace Cert.NaPre

open Cert.Pre_finite_scores Cert.Pre_finite_scores.Gen

/-- Below infinity in magnitude is real. -/
theorem real_of_abs (x : EReal) (h : BitVec.ofBool (decide (max x (-x) < Ideal.ofBits .f32 0x7F800000#32)) = 1#1) : ∃ r : ℝ, x = r := by
  have ht : Ideal.ofBits .f32 0x7F800000#32 = ⊤ := by simp [Ideal.ofBits, Ideal.ieee]
  rw [ht] at h
  have hx : max x (-x) < ⊤ := by
    by_contra hn
    rw [decide_eq_false hn] at h
    exact absurd h (by decide)
  induction x with
  | bot => exact absurd (lt_of_le_of_lt (le_max_right _ _) hx) (by simp)
  | top => exact absurd (lt_of_le_of_lt (le_max_left _ _) hx) (by simp)
  | coe r => exact ⟨r, rfl⟩

instance : Subsingleton S_.Idx := ⟨fun a b => funext fun i => i.elim0⟩

variable (x0 : FVec Ideal S16384x3072 .bf16) (x1 : FVec Ideal S512x3072 .bf16) (x2 : FVec Ideal S8x15x31 .f32)

/-- The precondition says that the queries, the keys and the biases are real. -/
theorem reals (h : Cert.Pre_finite_scores.fn (F := Ideal) x0 x1 x2 = fun _ => 1#1) :
    (∀ (i : Fin 16384) (j : Fin 2048), ∃ r : ℝ, x0 (ix2 i (⟨j.val, by omega⟩ : Fin 3072)) = (r : EReal))
      ∧ (∀ (i : Fin 512) (j : Fin 1024), ∃ r : ℝ, x1 (ix2 i (⟨1024 + j.val, by omega⟩ : Fin 3072)) = (r : EReal))
      ∧ ∀ (a : Fin 8) (i : Fin 15) (j : Fin 31), ∃ r : ℝ, x2 (ix3 a i j) = (r : EReal) := by
  have h' := congrFun h (Shape.Idx.first Cert.Pre_finite_scores.Gen.h_S_)
  unfold Cert.Pre_finite_scores.fn at h'
  obtain ⟨hab, hc⟩ := IntOp.andi_eq_one.1 h'
  obtain ⟨ha, hb⟩ := IntOp.andi_eq_one.1 hab
  refine ⟨fun i j => ?_, fun i j => ?_, fun a i j => ?_⟩
  · have e := Host.reduce_andi_all _ _ _ _ _ ha (ix2 i j)
    revert e
    pointwise []
    exact real_of_abs _
  · have e := Host.reduce_andi_all _ _ _ _ _ hb (ix2 i j)
    revert e
    pointwise []
    exact real_of_abs _
  · have e := Host.reduce_andi_all _ _ _ _ _ hc (ix3 a i j)
    revert e
    pointwise []
    exact real_of_abs _

/-- A dot product of reals is real. -/
theorem dot_real {n : ℕ} (f g : Fin n → EReal) (hf : ∀ d, ∃ r : ℝ, f d = r) (hg : ∀ d, ∃ r : ℝ, g d = r) :
    ∃ r : ℝ, (∑ d, f d * g d) = r := by
  choose F hF using hf
  choose G hG using hg
  refine ⟨∑ d, F d * G d, ?_⟩
  rw [← NaSoft.coe_sum]
  exact Finset.sum_congr rfl fun d _ => by rw [hF, hG, EReal.coe_mul]

/-- The mask's constant is real. -/
theorem mask_real : ∃ r : ℝ, Ideal.ofBits .f32 0xF149F2CA#32 = (r : EReal) := by
  simp only [Ideal.ofBits, Ideal.ieee]
  rw [if_neg (by decide), if_neg (by decide)]
  exact ⟨_, rfl⟩

variable (X : Fin 16384 → Fin 3072 → EReal) (Y : Fin 512 → Fin 3072 → EReal) (B : Fin 8 → Fin 15 → Fin 31 → EReal)
  (hX : ∀ (i : Fin 16384) (j : Fin 2048), ∃ r : ℝ, X i ⟨j.val, by omega⟩ = r)
  (hY : ∀ (i : Fin 512) (j : Fin 1024), ∃ r : ℝ, Y i ⟨1024 + j.val, by omega⟩ = r)
  (hB : ∀ (a : Fin 8) (i : Fin 15) (j : Fin 31), ∃ r : ℝ, B a i j = r)

include hX in
/-- The queries are real. -/
theorem qry_real (b : Fin 2) (h : Fin 8) (r : Fin 128) (q : Fin 64) (d : Fin 128) : ∃ z : ℝ, NaSpec.qry X b h r q d = z :=
  hX _ ⟨h.val * 128 + d.val, by omega⟩

include hX in
/-- The keys are real. -/
theorem key_real (b : Fin 2) (h : Fin 8) (r : Fin 128) (l : Fin 512) (d : Fin 128) : ∃ z : ℝ, NaSpec.key X b h r l d = z :=
  hX _ ⟨1024 + h.val * 128 + d.val, by omega⟩

include hY in
/-- The context keys are real. -/
theorem ckey_real (b : Fin 2) (h : Fin 8) (k : Fin 256) (d : Fin 128) : ∃ z : ℝ, NaSpec.ckey Y b h k d = z := by
  obtain ⟨z, hz⟩ := hY ⟨b.val * 256 + k.val, by omega⟩ ⟨h.val * 128 + d.val, by omega⟩
  refine ⟨z, ?_⟩
  rw [← hz]
  exact congrArg (Y _) (Fin.ext (by simp only; omega))

include hX hB in
/-- Every neighbourhood score is real. -/
theorem nscore_real (b : Fin 2) (h : Fin 8) (r : Fin 128) (q : Fin 64) (l : Fin 512) : ∃ z : ℝ, NaSpec.nscore X B b h r q l = z := by
  unfold NaSpec.nscore
  by_cases hw : NaSpec.inWin q.val (l.val % 64)
  · rw [if_pos hw]
    obtain ⟨u, hu⟩ := dot_real _ _ (qry_real X hX b h r q) (key_real X hX b h r l)
    obtain ⟨v, hv⟩ := hB h ⟨NaSpec.rs r.val + l.val / 64 + 7 - r.val, by unfold NaSpec.rs; omega⟩ ⟨min (l.val % 64 + 15 - q.val) 30, by omega⟩
    refine ⟨u + v, ?_⟩
    unfold NaSpec.bias
    rw [hu, hv, EReal.coe_add]
  · rw [if_neg hw]
    exact mask_real

include hX hY in
/-- Every context score is real. -/
theorem cscore_real (b : Fin 2) (h : Fin 8) (r : Fin 128) (q : Fin 64) (k : Fin 256) : ∃ z : ℝ, NaSpec.cscore X Y b h r q k = z :=
  dot_real _ _ (qry_real X hX b h r q) (ckey_real Y hY b h k)

end Cert.NaPre

end
-- ==== Proof.NaAttn.lean ====
/- The neighbourhood attention: what the kernel leaves is the reference's array where the scores are finite. -/
module

public import Idealize.ShloMosaic.Lib.Pipeline.ValueKit
public import proofs.«01_k».proof.Proof.NaOut
public import proofs.«01_k».proof.Proof.NaRef
public import proofs.«01_k».proof.Proof.NaPre

@[expose] public section

set_option maxRecDepth 16384

noncomputable section

open Idealize.ShloMosaic Idealize.ShloMosaic.TcCoe Idealize.SL.Sem

namespace Cert.NaAttn

open Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- After the run, the output array is the reference's term of the arguments. -/
theorem final (c : Dev nD) (hpre : Cert.Pre_KernelIdeal_finite_scores m) : (dats m 0 c).arrAt 7 (cfgs 0).N
    = ReferenceIdeal.Read.val_main_v125 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have b0 : (grid0.coords t 0).val < 2 := (grid0.coords t 0).isLt
  have b1 : (grid0.coords t 1).val < 8 := (grid0.coords t 1).isLt
  have b2 : (grid0.coords t 2).val < 32 := (grid0.coords t 2).isLt
  have y0 : (y 0).val < 256 := ValueIdx.idx2_lt0 y
  have y1 : (y 1).val < 128 := ValueIdx.idx2_lt1 y
  obtain ⟨hX, hY, hB⟩ := NaPre.reals _ _ _ (hpre c)
  refine (NaOut.block m c t ⟨(grid0.coords t 0).val, b0⟩ ⟨(grid0.coords t 1).val, b1⟩ ⟨(grid0.coords t 2).val, b2⟩ rfl rfl rfl y).trans ?_
  have hi := NaOut.idx t
  refine Eq.trans ?_ (NaRef.result_eq _ _ _ _ ⟨(grid0.coords t 0).val, b0⟩ ⟨(grid0.coords t 1).val, b1⟩
    ⟨(grid0.coords t 2).val * 4 + (y 0).val / 64, by omega⟩ ⟨(y 0).val % 64, by omega⟩ ⟨(y 1).val, y1⟩ ?_ ?_).symm
  · rw [NaRef.normed_eq]
    unfold NaSpec.out
    exact NaSoft.attend_eq_normed (by decide) (by decide) _ _ _ _ (NaPre.nscore_real _ _ hX hB _ _ _ _) (NaPre.cscore_real _ _ hX hY _ _ _ _)
  · have e : (((win0_7.blk t).view.emb y) 0).val = win0_7.index t 0 * 256 + (y 0).val := Pipeline.Window.rect_emb_val win0_7 t y 0
    rw [e, hi.2.2.2.2.2.2.2]
    show ((grid0.coords t 0).val * 32 + (grid0.coords t 2).val) * 256 + (y 0).val = (grid0.coords t 0).val * 8192 + ((grid0.coords t 2).val * 4 + (y 0).val / 64) * 64 + (y 0).val % 64
    omega
  · have e : (((win0_7.blk t).view.emb y) 1).val = win0_7.index t 1 * 128 + (y 1).val := Pipeline.Window.rect_emb_val win0_7 t y 1
    rw [e, hi.2.2.2.2.2.2.2]
    rfl

end Cert.NaAttn

end
-- ==== Proof.NormMod.lean ====
/- The modulated norm: its output array is the reference's term. -/
module

public import proofs.«01_k».proof.Proof.Gen.Kernel10Ideal.Frame
public import proofs.«01_k».proof.Proof.Gen.Reference10Ideal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.NormMod

open Cert.Kernel10Ideal Cert.Kernel10Ideal.Gen

variable (m : (ℓ : Loc nD τ sig) → Buf (Elt Ideal) ℓ)

/-- The block each window takes at a grid point. -/
theorem idx : ∀ t : Fin cfg0.N, win0_0.index t = ![(grid0.coords t 0).val, 0]
    ∧ win0_1.index t = ![0, 0]
    ∧ win0_2.index t = ![(grid0.coords t 0).val / 32, 0, 0]
    ∧ win0_3.index t = ![(grid0.coords t 0).val / 32, 0, 1]
    ∧ win0_4.index t = ![(grid0.coords t 0).val, 0] :=
  (by decide +kernel : ∀ t : Fin grid0.N, _)

/-- The block of rows at a grid point. -/
abbrev xB (c : Dev nD) (t : Fin cfg0.N) : FVec Ideal S256x4096 .f32 := iblk m c 0 t
/-- The block of the norm's weights at a grid point. -/
abbrev gB (c : Dev nD) (t : Fin cfg0.N) : FVec Ideal S1x4096 .f32 := iblk m c 1 t
/-- The block of shifts at a grid point. -/
abbrev bB (c : Dev nD) (t : Fin cfg0.N) : FVec Ideal S1x1x4096 .f32 := iblk m c 2 t
/-- The block of scales at a grid point. -/
abbrev aB (c : Dev nD) (t : Fin cfg0.N) : FVec Ideal S1x1x4096 .f32 := iblk m c 3 t

/-- An element of a modulated norm, from the element, the row's sum of squares, the weight, the scale and the shift. -/
def elem (x s g a b : EReal) : EReal :=
  x * Ideal.rsqrt (Ideal.div s (Ideal.ofBits FTy.f32 0x45800000#32) + Ideal.ofBits FTy.f32 0x358637BD#32) * g * (1 + a) + b

/-- One element of a tile, from the blocks. -/
theorem tile (X : FVec Ideal S256x4096 .f32) (G : FVec Ideal S1x4096 .f32) (A B : FVec Ideal S1x1x4096 .f32) (y : S256x4096.Idx) :
    (k0_pay1 (F := Ideal) X G A B y : EReal) = elem (X y) (∑ k : Fin 4096, X (ix2 (y 0) k) * X (ix2 (y 0) k)) (G (ix2 0 (y 1))) (A (ix3 0 0 (y 1))) (B (ix3 0 0 (y 1))) := by
  unfold elem
  pointwise [k0_pay1]

/-- An element of the reference's result. -/
theorem ref (x0 : FVec Ideal S16384x4096 .f32) (x1 : FVec Ideal S4096 .f32) (x2 : FVec Ideal S2x1x24576 .f32) (i : Fin 16384) (j : Fin 4096) :
    (Reference10Ideal.Read.val_main_v27 (F := Ideal) x0 x1 x2 (ix2 i j) : EReal)
      = elem (x0 (ix2 i j)) (∑ k : Fin 4096, x0 (ix2 i k) * x0 (ix2 i k)) (x1 (ix1 j)) (x2 (ix3 ⟨i.val / 8192, by omega⟩ 0 ⟨4096 + j.val, by omega⟩))
          (x2 (ix3 ⟨i.val / 8192, by omega⟩ 0 ⟨j.val, by omega⟩)) := by
  simp only [Reference10Ideal.Read.val_main_v27_apply, Reference10Ideal.Read.val_main_v26_apply, Reference10Ideal.Read.val_main_v25_apply,
    Reference10Ideal.Read.val_main_v24_apply, Reference10Ideal.Read.val_main_v23_apply, Reference10Ideal.Read.val_main_v22_apply,
    Reference10Ideal.Read.val_main_v21_apply, Reference10Ideal.Read.val_main_v20_apply, Reference10Ideal.Read.val_main_v19_apply,
    Reference10Ideal.Read.val_main_v18_apply, Reference10Ideal.Read.val_main_v17_apply, Reference10Ideal.Read.val_main_v16_apply,
    Reference10Ideal.Read.val_main_v15_apply, Reference10Ideal.Read.val_main_v14_apply, Reference10Ideal.Read.val_main_v13_apply,
    Reference10Ideal.Read.val_main_v12_apply, Reference10Ideal.Read.val_main_v11_apply, Reference10Ideal.Read.val_main_v10_apply,
    Reference10Ideal.Read.val_main_v9_apply, Reference10Ideal.Read.val_main_v8_apply, Reference10Ideal.Read.val_main_v7_apply,
    Reference10Ideal.Read.val_main_v6_apply, Reference10Ideal.Read.val_main_v0_apply, Reference10Ideal.Read.val_main_v1_apply,
    Reference10Ideal.Read.val_main_cst_apply, Reference10Ideal.Read.val_main_cst_0_apply, Reference10Ideal.Read.val_main_cst_1_apply,
    Reference10Ideal.Read.val_main_cst_2_apply]
  unfold elem
  pointwise
  have e6 : Reference10Ideal.Read.idx_main_v6 (Reference10Ideal.Read.idx_main_v26 (ix2 i j)) = ix2 i j := by
    blk_ext
  have e8 : ∀ k, Reference10Ideal.Read.idx_main_v6 (Reference10Ideal.Read.idx_main_v8 (Reference10Ideal.Read.idx_main_v9
      (Reference10Ideal.Read.idx_main_v15 (Reference10Ideal.Read.idx_main_v26 (ix2 i j)))) k) = ix2 i k := by
    intro k
    blk_ext
  have eg : Reference10Ideal.Read.idx_main_v17 (Reference10Ideal.Read.idx_main_v18 (Reference10Ideal.Read.idx_main_v26 (ix2 i j))) = ix1 j := by
    blk_ext
  have ea : Reference10Ideal.Read.idx_main_v1 (Reference10Ideal.Read.idx_main_v22 (Reference10Ideal.Read.idx_main_v26 (ix2 i j)))
      = ix3 ⟨i.val / 8192, by omega⟩ 0 ⟨4096 + j.val, by omega⟩ := by
    blk_ext
  have eb : Reference10Ideal.Read.idx_main_v0 (Reference10Ideal.Read.idx_main_v24 (Reference10Ideal.Read.idx_main_v26 (ix2 i j)))
      = ix3 ⟨i.val / 8192, by omega⟩ 0 ⟨j.val, by omega⟩ := by
    blk_ext
  simp only [e6, e8, eg, ea, eb]

/-- The block of rows holds the argument's rows. -/
theorem rows (c : Dev nD) (t : Fin cfg0.N) (r : Fin 256) (k : Fin 4096) (i : Fin 16384) (hi : i.val = (grid0.coords t 0).val * 256 + r.val) :
    xB m c t (ix2 r k) = m ((c : Thread nD τ).loc main_arg0) (ix2 i k) := by
  blk_simp [iblk, xB]
  blk_ext [idx t]

/-- The block of weights holds the argument. -/
theorem gain (c : Dev nD) (t : Fin cfg0.N) (k : Fin 4096) : gB m c t (ix2 0 k) = m ((c : Thread nD τ).loc main_arg1) (ix1 k) := by
  blk_simp [iblk, gB]
  entry_read
  pointwise [idx t]
  blk_ext [idx t]

/-- The block of shifts holds the argument's first part. -/
theorem shift (c : Dev nD) (t : Fin cfg0.N) (r : Fin 256) (k : Fin 4096) (i : Fin 16384) (hi : i.val = (grid0.coords t 0).val * 256 + r.val) :
    bB m c t (ix3 0 0 k) = m ((c : Thread nD τ).loc main_arg2) (ix3 ⟨i.val / 8192, by omega⟩ 0 ⟨k.val, by omega⟩) := by
  have hr := r.isLt
  blk_simp [iblk, bB]
  blk_ext [idx t]

/-- The block of scales holds the argument's second part. -/
theorem scale (c : Dev nD) (t : Fin cfg0.N) (r : Fin 256) (k : Fin 4096) (i : Fin 16384) (hi : i.val = (grid0.coords t 0).val * 256 + r.val) :
    aB m c t (ix3 0 0 k) = m ((c : Thread nD τ).loc main_arg2) (ix3 ⟨i.val / 8192, by omega⟩ 0 ⟨4096 + k.val, by omega⟩) := by
  have hr := r.isLt
  blk_simp [iblk, aB]
  blk_ext [idx t]

/-- One element of the tile computed at a grid point is the reference's element at its place in the array. -/
theorem point (c : Dev nD) (t : Fin cfg0.N) (r : Fin 256) (j : Fin 4096) (i : Fin 16384) (hi : i.val = (grid0.coords t 0).val * 256 + r.val) :
    (k0_pay1 (F := Ideal) (xB m c t) (gB m c t) (aB m c t) (bB m c t) (ix2 r j) : EReal)
      = Reference10Ideal.Read.val_main_v27 (F := Ideal) (m ((c : Thread nD τ).loc main_arg0)) (m ((c : Thread nD τ).loc main_arg1)) (m ((c : Thread nD τ).loc main_arg2)) (ix2 i j) := by
  refine (tile _ _ _ _ _).trans (Eq.trans ?_ (ref _ _ _ _ _).symm)
  show elem (xB m c t (ix2 r j)) (∑ k : Fin 4096, xB m c t (ix2 r k) * xB m c t (ix2 r k)) (gB m c t (ix2 0 j)) (aB m c t (ix3 0 0 j)) (bB m c t (ix3 0 0 j)) = _
  rw [gain m c t, shift m c t r j i hi, scale m c t r j i hi]
  simp only [rows m c t r _ i hi]

set_option maxHeartbeats 1600000 in
/-- After the run, the output array is the reference's term of the arguments. -/
theorem final (c : Dev nD) : (dats m 0 c).arrAt 4 (cfgs 0).N
    = Reference10Ideal.Read.val_main_v27 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  have hi : ((((cfg0.win 4).blk t).view.emb y) 0).val = (grid0.coords t 0).val * 256 + (y 0).val := by
    have e : (((win0_4.blk t).view.emb y) 0).val = win0_4.index t 0 * 256 + (y 0).val := Pipeline.Window.rect_emb_val win0_4 t y 0
    refine e.trans ?_
    rw [(idx t).2.2.2.2]
    rfl
  have hj : ((((cfg0.win 4).blk t).view.emb y) 1) = y 1 := by
    have e : (((win0_4.blk t).view.emb y) 1).val = win0_4.index t 1 * 4096 + (y 1).val := Pipeline.Window.rect_emb_val win0_4 t y 1
    refine Fin.ext (e.trans ?_)
    rw [(idx t).2.2.2.2]
    exact (congrArg (· + (y 1).val) (Nat.zero_mul 4096)).trans (Nat.zero_add _)
  refine (congrArg _ (eq_ix2 y)).trans ((point m c t (y 0) (y 1) _ hi).trans ?_)
  refine congrArg _ (Eq.trans ?_ (eq_ix2 _).symm)
  exact congrArg₂ ix2 rfl hj.symm

end Cert.NormMod

end
-- ==== Proof.OutProj.lean ====
/- The mixers' output projection with its gated residual: its output array is the reference's term. -/
module

public import proofs.«01_k».proof.Proof.Gen.Kernel4Ideal.Frame
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProj

open Cert.Kernel4Ideal Cert.Kernel4Ideal.Gen

variable (m : (ℓ : Loc nD τ sig) → Buf (Elt Ideal) ℓ)

/-- The block each window takes at a grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val / 8, 0, 16 + (grid0.coords t 1).val]
    ∧ win0_4.index t = ![(grid0.coords t 0).val, (grid0.coords t 1).val] :=
  (by decide +kernel : ∀ t : Fin grid0.N, _)

/-- The host's array of weights is the argument. -/
theorem weights (c : Dev nD) : V m c main_v0 = m ((c : Thread nD τ).loc main_arg1) := by
  entry_read
  rfl

/-- The block of activations at a grid point. -/
abbrev aB (c : Dev nD) (t : Fin cfg0.N) : FVec Ideal S1024x4096 .bf16 := iblk m c 0 t
/-- The block of weights at a grid point. -/
abbrev wB (c : Dev nD) (t : Fin cfg0.N) : FVec Ideal S4096x512 .bf16 := iblk m c 1 t
/-- The block of the residual at a grid point. -/
abbrev xB (c : Dev nD) (t : Fin cfg0.N) : FVec Ideal S1024x512 .f32 := iblk m c 2 t
/-- The block of the gate at a grid point. -/
abbrev gB (c : Dev nD) (t : Fin cfg0.N) : FVec Ideal S1x1x512 .f32 := iblk m c 3 t

/-- One element of a tile, from the blocks: the residual plus the gate times the dot product. -/
theorem tile (A : FVec Ideal S1024x4096 .bf16) (B : FVec Ideal S4096x512 .bf16) (X : FVec Ideal S1024x512 .f32) (G : FVec Ideal S1x1x512 .f32)
    (y : S1024x512.Idx) (d x g : EReal) (hd : (∑ k : Fin 4096, A (ix2 (y 0) k) * B (ix2 k (y 1))) = d) (hx : X y = x)
    (hg : G (ix3 0 0 (y 1)) = g) : (k0_pay1 (F := Ideal) A B X G y : EReal) = x + g * d := by
  pointwise [k0_pay1]
  rw [hd, hx, hg]

/-- The dot product of a tile is the reference's at the tile's place. -/
theorem dot (c : Dev nD) (t : Fin cfg0.N) (y : S1024x512.Idx) :
    (∑ k : Fin 4096, aB m c t (ix2 (y 0) k) * wB m c t (ix2 k (y 1)))
      = Reference4Ideal.Read.val_main_v8 (F := Ideal) (m ((c : Thread nD τ).loc main_arg0)) (m ((c : Thread nD τ).loc main_arg1)) (Reference4Ideal.Read.idx_main_v13 (((cfg0.win 4).blk t).view.emb y)) := by
  have b0 : (grid0.coords t 0).val < 16 := (grid0.coords t 0).isLt
  have b1 : (grid0.coords t 1).val < 8 := (grid0.coords t 1).isLt
  rw [Reference4Ideal.Read.val_main_v8_apply]
  refine Finset.sum_congr rfl fun k _ => ?_
  rw [Reference4Ideal.Read.val_main_v7_apply, Reference4Ideal.Read.val_main_v6_apply, ← weights m c]
  blk_simp [iblk, aB, wB]
  congr 1
  · blk_ext [idx t] <;> omega
  · blk_ext [idx t] <;> omega

/-- The residual of a tile is the reference's at the tile's place. -/
theorem res (c : Dev nD) (t : Fin cfg0.N) (y : S1024x512.Idx) :
    xB m c t y = Reference4Ideal.Read.val_main_v9 (F := Ideal) (m ((c : Thread nD τ).loc main_arg2)) (Reference4Ideal.Read.idx_main_v13 (((cfg0.win 4).blk t).view.emb y)) := by
  have b0 : (grid0.coords t 0).val < 16 := (grid0.coords t 0).isLt
  have b1 : (grid0.coords t 1).val < 8 := (grid0.coords t 1).isLt
  rw [Reference4Ideal.Read.val_main_v9_apply]
  blk_simp [iblk, xB]
  blk_ext [idx t] <;> omega

/-- The gate of a tile is the reference's at the tile's place. -/
theorem gate (c : Dev nD) (t : Fin cfg0.N) (y : S1024x512.Idx) :
    gB m c t (ix3 0 0 (y 1)) = Reference4Ideal.Read.val_main_v10 (F := Ideal) (m ((c : Thread nD τ).loc main_arg3)) (Reference4Ideal.Read.idx_main_v13 (((cfg0.win 4).blk t).view.emb y)) := by
  have b0 : (grid0.coords t 0).val < 16 := (grid0.coords t 0).isLt
  have b1 : (grid0.coords t 1).val < 8 := (grid0.coords t 1).isLt
  rw [Reference4Ideal.Read.val_main_v10_apply, Reference4Ideal.Read.val_main_v2_apply]
  blk_simp [iblk, gB]
  blk_ext [idx t] <;> omega

/-- One element of the tile computed at a grid point is the reference's element at its place in the array. -/
theorem point (c : Dev nD) (t : Fin cfg0.N) (y : S1024x512.Idx) :
    k0_pay1 (iblk m c 0 t) (iblk m c 1 t) (iblk m c 2 t) (iblk m c 3 t) y
      = Reference4Ideal.Read.val_main_v13 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  rw [Reference4Ideal.Read.val_main_v13_apply, Reference4Ideal.Read.val_main_v12_apply, Reference4Ideal.Read.val_main_v11_apply]
  exact tile (aB m c t) (wB m c t) (xB m c t) (gB m c t) y _ _ _ (dot m c t y) (res m c t y) (gate m c t y)

/-- After the run, the output array is the reference's term of the arguments. -/
theorem final (c : Dev nD) : (dats m 0 c).arrAt 4 (cfgs 0).N
    = Reference4Ideal.Read.val_main_v13 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.OutProj

end
-- ==== Proof.ProjGates.lean ====
/- The branch gates' part of the input projection: its output array is the reference's term. -/
module

public import proofs.«01_k».proof.Proof.Gen.Kernel8Ideal.Frame
public import proofs.«01_k».proof.Proof.Gen.Reference8Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjGates

open Cert.Kernel8Ideal Cert.Kernel8Ideal.Gen

variable (m : (ℓ : Loc nD τ sig) → Buf (Elt Ideal) ℓ)

/-- The block each window takes at a grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The host's array of weights is the reference's slice of the argument. -/
theorem weights (c : Dev nD) : V m c main_v1 = Reference8Ideal.Read.val_main_v1 (F := Ideal) (m ((c : Thread nD τ).loc main_arg1)) := by
  entry_read
  rfl

/-- The block of activations at a grid point. -/
abbrev hB (c : Dev nD) (t : Fin cfg0.N) : FVec Ideal S1024x4096 .bf16 := iblk m c 0 t
/-- The block of weights at a grid point. -/
abbrev wB (c : Dev nD) (t : Fin cfg0.N) : FVec Ideal S4096x1024 .bf16 := iblk m c 1 t

/-- One element of a tile, from the blocks. -/
theorem tile (A : FVec Ideal S1024x4096 .bf16) (B : FVec Ideal S4096x1024 .bf16) (y : S1024x1024.Idx) (d : EReal)
    (hd : (∑ k : Fin 4096, A (ix2 (y 0) k) * B (ix2 k (y 1))) = d) : (k0_pay1 (F := Ideal) A B y : EReal) = Ideal.div 1 (1 + Ideal.exp (-d)) := by
  pointwise [k0_pay1]
  rw [hd, zero_sub]

/-- The dot product of a tile is the reference's at the tile's place. -/
theorem dot (c : Dev nD) (t : Fin cfg0.N) (y : S1024x1024.Idx) :
    (∑ k : Fin 4096, hB m c t (ix2 (y 0) k) * wB m c t (ix2 k (y 1)))
      = Reference8Ideal.Read.val_main_v2 (F := Ideal) (m ((c : Thread nD τ).loc main_arg0)) (m ((c : Thread nD τ).loc main_arg1)) (((cfg0.win 2).blk t).view.emb y) := by
  rw [Reference8Ideal.Read.val_main_v2_apply]
  refine Finset.sum_congr rfl fun k _ => ?_
  rw [Reference8Ideal.Read.val_main_v0_apply, ← weights m c]
  blk_simp [iblk, hB, wB]
  congr 1
  · blk_ext [idx t]
  · blk_ext [idx t]

/-- One element of the tile computed at a grid point is the reference's element at its place in the array. -/
theorem point (c : Dev nD) (t : Fin cfg0.N) (y : S1024x1024.Idx) :
    k0_pay1 (iblk m c 0 t) (iblk m c 1 t) y = Reference8Ideal.Read.val_main_v9 (F := Ideal) (m ((c : Thread nD τ).loc main_arg0)) (m ((c : Thread nD τ).loc main_arg1)) (((cfg0.win 2).blk t).view.emb y) := by
  rw [Reference8Ideal.Read.val_main_v9_apply, Reference8Ideal.Read.val_main_v8_apply, Reference8Ideal.Read.val_main_v7_apply, Reference8Ideal.Read.val_main_v6_apply, Reference8Ideal.Read.val_main_v5_apply, Reference8Ideal.Read.val_main_v4_apply, Reference8Ideal.Read.val_main_v3_apply, Reference8Ideal.Read.val_main_cst_apply, Reference8Ideal.Read.val_main_cst_0_apply]
  refine (tile (hB m c t) (wB m c t) y _ (dot m c t y)).trans ?_
  pointwise

/-- After the run, the output array is the reference's term of the arguments. -/
theorem final (c : Dev nD) : (dats m 0 c).arrAt 2 (cfgs 0).N
    = Reference8Ideal.Read.val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjGates

end
-- ==== Proof.ProjHgrn.lean ====
/- The recurrence's part of the input projection: its output array is the reference's term. -/
module

public import proofs.«01_k».proof.Proof.Gen.Kernel6Ideal.Frame
public import proofs.«01_k».proof.Proof.Gen.Reference6Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjHgrn

open Cert.Kernel6Ideal Cert.Kernel6Ideal.Gen

variable (m : (ℓ : Loc nD τ sig) → Buf (Elt Ideal) ℓ)

/-- The block each window takes at a grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The host's array of weights is the reference's slice of the argument. -/
theorem weights (c : Dev nD) : V m c main_v1 = Reference6Ideal.Read.val_main_v1 (F := Ideal) (m ((c : Thread nD τ).loc main_arg1)) := by
  entry_read
  rfl

/-- The block of activations at a grid point. -/
abbrev hB (c : Dev nD) (t : Fin cfg0.N) : FVec Ideal S1024x4096 .bf16 := iblk m c 0 t
/-- The block of weights at a grid point. -/
abbrev wB (c : Dev nD) (t : Fin cfg0.N) : FVec Ideal S4096x1024 .bf16 := iblk m c 1 t

/-- One element of a tile, from the blocks. -/
theorem tile (A : FVec Ideal S1024x4096 .bf16) (B : FVec Ideal S4096x1024 .bf16) (y : S1024x1024.Idx) (d : EReal)
    (hd : (∑ k : Fin 4096, A (ix2 (y 0) k) * B (ix2 k (y 1))) = d) : (k0_pay1 (F := Ideal) A B y : EReal) = d := by
  pointwise [k0_pay1]
  rw [hd]

/-- The dot product of a tile is the reference's at the tile's place. -/
theorem dot (c : Dev nD) (t : Fin cfg0.N) (y : S1024x1024.Idx) :
    (∑ k : Fin 4096, hB m c t (ix2 (y 0) k) * wB m c t (ix2 k (y 1)))
      = Reference6Ideal.Read.val_main_v2 (F := Ideal) (m ((c : Thread nD τ).loc main_arg0)) (m ((c : Thread nD τ).loc main_arg1)) (((cfg0.win 2).blk t).view.emb y) := by
  rw [Reference6Ideal.Read.val_main_v2_apply]
  refine Finset.sum_congr rfl fun k _ => ?_
  rw [Reference6Ideal.Read.val_main_v0_apply, ← weights m c]
  blk_simp [iblk, hB, wB]
  congr 1
  · blk_ext [idx t]
  · blk_ext [idx t]

/-- One element of the tile computed at a grid point is the reference's element at its place in the array. -/
theorem point (c : Dev nD) (t : Fin cfg0.N) (y : S1024x1024.Idx) :
    k0_pay1 (iblk m c 0 t) (iblk m c 1 t) y = Reference6Ideal.Read.val_main_v2 (F := Ideal) (m ((c : Thread nD τ).loc main_arg0)) (m ((c : Thread nD τ).loc main_arg1)) (((cfg0.win 2).blk t).view.emb y) := by
  refine (tile (hB m c t) (wB m c t) y _ (dot m c t y)).trans ?_
  rfl

/-- After the run, the output array is the reference's term of the arguments. -/
theorem final (c : Dev nD) : (dats m 0 c).arrAt 2 (cfgs 0).N
    = Reference6Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjHgrn

end
-- ==== Proof.ProjNa.lean ====
/- The neighbourhood attention's part of the input projection: its output array is the reference's term. -/
module

public import proofs.«01_k».proof.Proof.Gen.Kernel7Ideal.Frame
public import proofs.«01_k».proof.Proof.Gen.Reference7Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjNa

open Cert.Kernel7Ideal Cert.Kernel7Ideal.Gen

variable (m : (ℓ : Loc nD τ sig) → Buf (Elt Ideal) ℓ)

/-- The block each window takes at a grid point. -/
theorem idx : ∀ t : Fin cfg0.N, win0_0.index t = ![(grid0.coords t 0).val, 0]
    ∧ win0_1.index t = ![0, (grid0.coords t 1).val]
    ∧ win0_2.index t = ![0, (grid0.coords t 1).val]
    ∧ win0_3.index t = ![(grid0.coords t 0).val, (grid0.coords t 1).val] :=
  (by decide +kernel : ∀ t : Fin grid0.N, _)

/-- The host's array of weights is the reference's slice of the argument. -/
theorem weights (c : Dev nD) : V m c main_v5 = Reference7Ideal.Read.val_main_v1 (F := Ideal) (m ((c : Thread nD τ).loc main_arg1)) := by
  entry_read
  rfl

/-- The block of activations at a grid point. -/
abbrev hB (c : Dev nD) (t : Fin cfg0.N) : FVec Ideal S1024x4096 .bf16 := iblk m c 0 t
/-- The block of weights at a grid point. -/
abbrev wB (c : Dev nD) (t : Fin cfg0.N) : FVec Ideal S4096x1024 .bf16 := iblk m c 1 t
/-- The block of column scales at a grid point. -/
abbrev sB (c : Dev nD) (t : Fin cfg0.N) : FVec Ideal S1x1024 .f32 := iblk m c 2 t

/-- One element of a tile, from the blocks. -/
theorem tile (A : FVec Ideal S1024x4096 .bf16) (B : FVec Ideal S4096x1024 .bf16) (S : FVec Ideal S1x1024 .f32) (y : S1024x1024.Idx) (d : EReal)
    (hd : (∑ k : Fin 4096, A (ix2 (y 0) k) * B (ix2 k (y 1))) = d) (s : EReal) (hs : S (ix2 0 (y 1)) = s) : (k0_pay1 (F := Ideal) A B S y : EReal) = d * s := by
  pointwise [k0_pay1]
  rw [hd, hs]

/-- The dot product of a tile is the reference's at the tile's place. -/
theorem dot (c : Dev nD) (t : Fin cfg0.N) (y : S1024x1024.Idx) :
    (∑ k : Fin 4096, hB m c t (ix2 (y 0) k) * wB m c t (ix2 k (y 1)))
      = Reference7Ideal.Read.val_main_v2 (F := Ideal) (m ((c : Thread nD τ).loc main_arg0)) (m ((c : Thread nD τ).loc main_arg1)) (((cfg0.win 3).blk t).view.emb y) := by
  rw [Reference7Ideal.Read.val_main_v2_apply]
  refine Finset.sum_congr rfl fun k _ => ?_
  rw [Reference7Ideal.Read.val_main_v0_apply, ← weights m c]
  blk_simp [iblk, hB, wB]
  congr 1
  · blk_ext [idx t]
  · blk_ext [idx t]

/-- The scale of a tile's column: the query factor on the query's columns, one elsewhere. -/
theorem scale (c : Dev nD) (t : Fin cfg0.N) (y : S1024x1024.Idx) :
    sB m c t (ix2 0 (y 1)) = if ((((cfg0.win 3).blk t).view.emb y) 1).val < 1024 then Ideal.ofBits .f32 0x3DB504F3#32 else 1 := by
  blk_simp [iblk, sB]
  entry_read
  pointwise [idx t]
  have e : (((View.whole main_v3).slice (win0_2.rect t)).emb (ix2 0 (y 1)) 1).val = (grid0.coords t 1).val * 1024 + (y 1).val := by
    blk_simp [idx t]
  simp only [e, dite_eq_ite]

/-- The reference's element: the projection, scaled on the query's columns. -/
theorem scaled (x0 : FVec Ideal S16384x4096 .bf16) (x1 : FVec Ideal S4096x26880 .f32) (i : S16384x3072.Idx) :
    Reference7Ideal.Read.val_main_v9 (F := Ideal) x0 x1 i
      = Reference7Ideal.Read.val_main_v2 (F := Ideal) x0 x1 i * if (i 1).val < 1024 then Ideal.ofBits .f32 0x3DB504F3#32 else 1 := by
  rw [Reference7Ideal.Read.val_main_v9_apply]
  unfold Reference7Ideal.Read.val_main_v8
  pointwise [Reference7Ideal.Read.val_main_v7, Reference7Ideal.Read.val_main_v3, Reference7Ideal.Read.val_main_v4, Reference7Ideal.Read.val_main_v5, Reference7Ideal.Read.val_main_v6, Reference7Ideal.Read.val_main_cst]
  have l : (i 1).val < 3072 := (i 1).isLt
  by_cases h : (i 1).val < 1024
  · rw [dif_pos h, if_pos h]
  · rw [dif_neg h, if_neg h, mul_one]
    by_cases h' : (i 1).val - 1024 < 1024
    · rw [dif_pos h']
      exact congrArg _ (funext fun a => Fin.ext (by match a with
        | ⟨0, _⟩ => rfl
        | ⟨1, _⟩ => show 1024 + ((i 1).val - 1024) = (i 1).val; omega))
    · rw [dif_neg h']
      exact congrArg _ (funext fun a => Fin.ext (by match a with
        | ⟨0, _⟩ => rfl
        | ⟨1, _⟩ => show 2048 + ((i 1).val - 1024 - 1024) = (i 1).val; omega))

/-- One element of the tile computed at a grid point is the reference's element at its place in the array. -/
theorem point (c : Dev nD) (t : Fin cfg0.N) (y : S1024x1024.Idx) :
    k0_pay1 (iblk m c 0 t) (iblk m c 1 t) (iblk m c 2 t) y
      = Reference7Ideal.Read.val_main_v9 (F := Ideal) (m ((c : Thread nD τ).loc main_arg0)) (m ((c : Thread nD τ).loc main_arg1))
          (((cfg0.win 3).blk t).view.emb y) :=
  (tile (hB m c t) (wB m c t) (sB m c t) y _ (dot m c t y) _ (scale m c t y)).trans (scaled _ _ _).symm

/-- After the run, the output array is the reference's term of the arguments. -/
theorem final (c : Dev nD) : (dats m 0 c).arrAt 3 (cfgs 0).N
    = Reference7Ideal.Read.val_main_v9 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.ProjNa

end
-- ==== Proof.RopeTile.lean ====
/- One tile of the window attention's projection: a slice of 128 columns, rotated by the tables and scaled. -/
module

public import proofs.«01_k».proof.Proof.Gen.Kernel9Ideal.Frame
public import Idealize.ShloMosaic.Lib.Pipeline.ValueKit

@[expose] public section

set_option maxRecDepth 16384

noncomputable section

open Idealize.ShloMosaic Idealize.ShloMosaic.TcCoe Idealize.SL.Sem

namespace Cert.RopeTile

open Cert.Kernel9Ideal Cert.Kernel9Ideal.Gen

/-- The lanes whose partner lies sixteen lanes up. -/
def low : IVec S1024x128 1 :=
  have v46 : BitVec 32 := Scalar.select (Scalar.cmpi .eq 32#32 0#32) 1#32 32#32
  have v48 : IVec S1024x128 32 := remsi (iota .tc S1024x128 32 [1] iota_S1024x128_d1_w32) (broadcast S1024x128 v46)
  have v50 : IVec S1024x128 1 := cmpi .ne v48 (broadcast S1024x128 0#32)
  have v52 : IVec S1024x128 1 := cmpi .slt v48 (broadcast S1024x128 0#32)
  have v55 : IVec S1024x128 1 := broadcastTo S1024x128 (broadcast S1024x128 (Scalar.cmpi .slt v46 0#32)) broadcasts_S1024x128_S1024x128
  cmpi .slt (select (andi (xori v52 v55) v50) (addi v48 (broadcast S1024x128 v46)) v48) (broadcast S1024x128 16#32)

/-- A slice of columns, each multiplied by its cosine, its partner by its signed sine, and the sum by the column's scale. -/
def rope (X C N : FVec Ideal S1024x128 .f32) (s : FVec Ideal S1x128 .f32) : FVec Ideal S1024x128 .bf16 :=
  truncf .bf16 (mulf (addf (mulf X C) (mulf (select low (dynamicRotate 1 112#32 none X rotates_S1024x128_d1) (dynamicRotate 1 16#32 none X rotates_S1024x128_d1)) N))
    (broadcastTo S1024x128 (shapeCast S1x128 s shapeCasts_S1x128_S1x128) broadcasts_S1x128_S1024x128)) bitsLt_bf16_f32

/-- The low lanes are those in the first half of their group of thirty-two. -/
theorem low_apply (r : Fin 1024) (l : Fin 128) : low (ix2 r l) = if l.val % 32 < 16 then 1#1 else 0#1 := by
  unfold low
  pointwise []
  revert l
  decide +kernel

/-- One element of a rotated slice. -/
theorem rope_apply (X C N : FVec Ideal S1024x128 .f32) (s : FVec Ideal S1x128 .f32) (r : Fin 1024) (l : Fin 128) :
    (rope X C N s (ix2 r l) : EReal) = (X (ix2 r l) * C (ix2 r l)
      + (if l.val % 32 < 16 then X (ix2 r ⟨(l.val + 16) % 128, by omega⟩) else X (ix2 r ⟨(l.val + 112) % 128, by omega⟩)) * N (ix2 r l)) * s (ix2 0 l) := by
  unfold rope
  pointwise []
  rw [low_apply]
  by_cases h : l.val % 32 < 16
  · rw [if_pos h, if_pos h]
    have e : (⟨(l.val + 128 - 112) % 128, Nat.mod_lt _ (by decide)⟩ : Fin 128) = ⟨(l.val + 16) % 128, Nat.mod_lt _ (by decide)⟩ := Fin.ext (by show (l.val + 128 - 112) % 128 = (l.val + 16) % 128; omega)
    rw [e]
    rfl
  · rw [if_neg h, if_neg h]
    have e : (⟨(l.val + 128 - 16) % 128, Nat.mod_lt _ (by decide)⟩ : Fin 128) = ⟨(l.val + 112) % 128, Nat.mod_lt _ (by decide)⟩ := Fin.ext (by show (l.val + 128 - 16) % 128 = (l.val + 112) % 128; omega)
    rw [e]
    rfl

end Cert.RopeTile

end
-- ==== Proof.RopeTab.lean ====
/- The tables of cosines and signed sines that the host hands the window attention's projection. -/
module

public import proofs.«01_k».proof.Proof.Gen.Kernel9Ideal.Frame
public import proofs.«01_k».proof.Proof.Gen.Reference9Ideal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.RopeTab

open Cert.Kernel9Ideal Cert.Kernel9Ideal.Gen

/-- Two arrays of sixteen columns side by side. -/
def two (A B : FVec Ideal S8192x16 .f32) : FVec Ideal S8192x32 .f32 :=
  concatenate S8192x32 1 [⟨S8192x16, A⟩, ⟨S8192x16, B⟩] concatenates_S8192x16_S8192x16_S8192x32_d1

/-- Two arrays of thirty-two columns side by side, the whole twice over. -/
def four (A C : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, A⟩, ⟨S8192x32, C⟩] concatenates_S8192x32_S8192x32_S8192x64_d1)
      shapeCasts_S8192x64_S1x8192x1x64)) shapeCasts_S1x8192x2x64_S8192x128

/-- Four arrays of sixteen columns side by side, the whole twice over. -/
abbrev spread (A B C D : FVec Ideal S8192x16 .f32) : FVec Ideal S8192x128 .f32 := four (two A B) (two C D)

/-- One element of the arrays side by side. -/
theorem spread_apply (A B C D : FVec Ideal S8192x16 .f32) (t : Fin 8192) (l : Fin 128) :
    spread A B C D (ix2 t l) = (if l.val % 64 < 16 then A else if l.val % 64 < 32 then B else if l.val % 64 < 48 then C else D) (ix2 t ⟨l.val % 16, by omega⟩) := by
  pointwise [spread, four, two]
  have hl := l.isLt
  rcases (by omega : l.val % 64 < 16 ∨ (¬ l.val % 64 < 16 ∧ l.val % 64 < 32) ∨ (¬ l.val % 64 < 32 ∧ l.val % 64 < 48) ∨ ¬ l.val % 64 < 48) with h | ⟨h, h'⟩ | ⟨h, h'⟩ | h
  · have h2 : l.val % 64 < 32 := by omega
    simp only [h, h2, ↓reduceDIte, ↓reduceIte]
    exact congrArg A (congrArg (ix2 t) (Fin.ext (by dsimp only; omega)))
  · simp only [h, h', ↓reduceDIte, ↓reduceIte]
    exact congrArg B (congrArg (ix2 t) (Fin.ext (by dsimp only; omega)))
  · have h1 : ¬ l.val % 64 < 16 := by omega
    have h2 : l.val % 64 - 32 < 16 := by omega
    simp only [h, h', h1, h2, ↓reduceDIte, ↓reduceIte]
    exact congrArg C (congrArg (ix2 t) (Fin.ext (by dsimp only; omega)))
  · have h1 : ¬ l.val % 64 < 16 := by omega
    have h2 : ¬ l.val % 64 < 32 := by omega
    have h3 : ¬ l.val % 64 - 32 < 16 := by omega
    simp only [h, h1, h2, h3, ↓reduceDIte, ↓reduceIte]
    exact congrArg D (congrArg (ix2 t) (Fin.ext (by dsimp only; omega)))

variable (m : (ℓ : Loc nD τ sig) → Buf (Elt Ideal) ℓ)

/-- The cosines of the row angles. -/
abbrev cr : FVec Ideal S8192x16 .f32 := Reference9Ideal.Read.val_main_v29 (F := Ideal)
/-- The sines of the row angles. -/
abbrev sr : FVec Ideal S8192x16 .f32 := Reference9Ideal.Read.val_main_v30 (F := Ideal)
/-- The cosines of the column angles. -/
abbrev cc : FVec Ideal S8192x16 .f32 := Reference9Ideal.Read.val_main_v54 (F := Ideal)
/-- The sines of the column angles. -/
abbrev sc : FVec Ideal S8192x16 .f32 := Reference9Ideal.Read.val_main_v55 (F := Ideal)

/-- The host's table of cosines. -/
theorem cosines (c : Dev nD) : V m c main_v43 = spread cr cr cc cc := by
  unfold V
  after_reads_simp
  refine congrArg₂ four ?_ ?_
  all_goals
    after_reads_simp
    refine congrArg₂ two ?_ ?_
  all_goals
    after_reads_simp
    simp only [StableHlo.TRef.ofBuf, StableHlo.TRef.toBuf, cast_eq]
    rfl

/-- The host's table of signed sines. -/
theorem sines (c : Dev nD) : V m c main_v46 = spread (Host.negf sr) sr (Host.negf sc) sc := by
  unfold V
  after_reads_simp
  refine congrArg₂ four ?_ ?_
  all_goals
    after_reads_simp
    refine congrArg₂ two ?_ ?_
  all_goals
    after_reads_simp
    simp only [StableHlo.TRef.ofBuf, StableHlo.TRef.toBuf, cast_eq]
    rfl

theorem cr' : Reference9Ideal.Read.val_main_v99 (F := Ideal) = cr := rfl
theorem sr' : Reference9Ideal.Read.val_main_v100 (F := Ideal) = sr := rfl
theorem cc' : Reference9Ideal.Read.val_main_v124 (F := Ideal) = cc := rfl
theorem sc' : Reference9Ideal.Read.val_main_v125 (F := Ideal) = sc := rfl

end Cert.RopeTab

end
-- ==== Proof.RopeRef.lean ====
/- The reference's window part of the projection, element by element. -/
module

public import proofs.«01_k».proof.Proof.RopeTab

@[expose] public section

set_option maxRecDepth 16384

noncomputable section

open Idealize.ShloMosaic Idealize.ShloMosaic.TcCoe Idealize.SL.Sem

namespace Cert.RopeRef

open Cert.Reference9Ideal Cert.Reference9Ideal.Gen Cert.Reference9Ideal.Read

/-- The table's entry of a head's element: row angles in the first half, column angles in the second. -/
def half (A B : FVec Ideal S8192x16 .f32) (t : Fin 8192) (d : Fin 64) : EReal :=
  if d.val < 32 then A (ix2 t ⟨d.val % 16, by omega⟩) else B (ix2 t ⟨d.val % 16, by omega⟩)

/-- An element of a head, rotated against its partner sixteen elements away. -/
def rot (q : Fin 64 → EReal) (t : Fin 8192) (d : Fin 64) : EReal :=
  if d.val % 32 < 16 then q d * half RopeTab.cr RopeTab.cc t d - q ⟨(d.val + 16) % 64, by omega⟩ * half RopeTab.sr RopeTab.sc t d
  else q ⟨(d.val + 48) % 64, by omega⟩ * half RopeTab.sr RopeTab.sc t d + q d * half RopeTab.cr RopeTab.cc t d

/-- The four quarters of a head are its rotation. -/
theorem quarters (q : Fin 64 → EReal) (t : Fin 8192) (d : Fin 64) :
    (if h1 : d.val < 32 then
      if h2 : d.val < 16 then q d * RopeTab.cr (ix2 t ⟨d.val, h2⟩) - q ⟨16 + d.val, by omega⟩ * RopeTab.sr (ix2 t ⟨d.val, h2⟩)
      else q ⟨d.val - 16, by omega⟩ * RopeTab.sr (ix2 t ⟨d.val - 16, by omega⟩) + q ⟨16 + (d.val - 16), by omega⟩ * RopeTab.cr (ix2 t ⟨d.val - 16, by omega⟩)
    else
      if h2 : d.val - 32 < 16 then
        q ⟨32 + (d.val - 32), by omega⟩ * RopeTab.cc (ix2 t ⟨d.val - 32, h2⟩) - q ⟨32 + (16 + (d.val - 32)), by omega⟩ * RopeTab.sc (ix2 t ⟨d.val - 32, h2⟩)
      else q ⟨32 + (d.val - 32 - 16), by omega⟩ * RopeTab.sc (ix2 t ⟨d.val - 32 - 16, by omega⟩)
        + q ⟨32 + (16 + (d.val - 32 - 16)), by omega⟩ * RopeTab.cc (ix2 t ⟨d.val - 32 - 16, by omega⟩)) = rot q t d := by
  unfold rot half
  have e0 : ∀ (n k : ℕ) (hn : n < 64) (hk : k < 64), n = k → q ⟨n, hn⟩ = q ⟨k, hk⟩ := fun n k hn hk e => by subst e; rfl
  have e1 : ∀ (A : FVec Ideal S8192x16 .f32) (n k : ℕ) (hn : n < 16) (hk : k < 16), n = k → A (ix2 t ⟨n, hn⟩) = A (ix2 t ⟨k, hk⟩) := fun A n k hn hk e => by subst e; rfl
  rcases (by omega : d.val < 16 ∨ (¬ d.val < 16 ∧ d.val < 32) ∨ (¬ d.val < 32 ∧ d.val - 32 < 16) ∨ (¬ d.val < 32 ∧ ¬ d.val - 32 < 16)) with h | ⟨h, h'⟩ | ⟨h, h'⟩ | ⟨h, h'⟩
  · have h2 : d.val < 32 := by omega
    have h3 : d.val % 32 < 16 := by omega
    simp only [h, h2, h3, ↓reduceDIte, ↓reduceIte]
    congr 1
    · exact congrArg (q d * ·) (e1 _ _ _ _ _ (by omega))
    · exact congrArg₂ (· * ·) (e0 _ _ _ _ (by omega)) (e1 _ _ _ _ _ (by omega))
  · have h3 : ¬ d.val % 32 < 16 := by omega
    simp only [h, h', h3, ↓reduceDIte, ↓reduceIte]
    exact congrArg₂ (· + ·) (congrArg₂ (· * ·) (e0 _ _ _ _ (by omega)) (e1 _ _ _ _ _ (by omega)))
      (congrArg₂ (· * ·) (e0 _ d.val _ d.isLt (by omega)) (e1 _ _ _ _ _ (by omega)))
  · have h3 : d.val % 32 < 16 := by omega
    simp only [h, h', h3, ↓reduceDIte, ↓reduceIte]
    exact congrArg₂ (· - ·) (congrArg₂ (· * ·) (e0 _ d.val _ d.isLt (by omega)) (e1 _ _ _ _ _ (by omega)))
      (congrArg₂ (· * ·) (e0 _ _ _ _ (by omega)) (e1 _ _ _ _ _ (by omega)))
  · have h3 : ¬ d.val % 32 < 16 := by omega
    simp only [h, h', h3, ↓reduceDIte, ↓reduceIte]
    exact congrArg₂ (· + ·) (congrArg₂ (· * ·) (e0 _ _ _ _ (by omega)) (e1 _ _ _ _ _ (by omega)))
      (congrArg₂ (· * ·) (e0 _ d.val _ d.isLt (by omega)) (e1 _ _ _ _ _ (by omega)))

variable (x0 : FVec Ideal S16384x4096 .bf16) (x1 : FVec Ideal S4096x26880 .f32)

/-- A query before its rotation. -/
theorem qry (b : Fin 2) (h : Fin 16) (t : Fin 8192) (d : Fin 64) : val_main_v7 (F := Ideal) x0 x1 (ix4 b h t d)
    = val_main_v2 (F := Ideal) x0 x1 (ix2 ⟨b.val * 8192 + t.val, by omega⟩ ⟨h.val * 64 + d.val, by omega⟩) := by
  pointwise [val_main_v7, val_main_v6, val_main_v3]

/-- A key before its rotation. -/
theorem key (b : Fin 2) (h : Fin 2) (t : Fin 8192) (d : Fin 64) : val_main_v77 (F := Ideal) x0 x1 (ix4 b h t d)
    = val_main_v2 (F := Ideal) x0 x1 (ix2 ⟨b.val * 8192 + t.val, by omega⟩ ⟨1024 + (h.val * 64 + d.val), by omega⟩) := by
  pointwise [val_main_v77, val_main_v76, val_main_v4]

/-- A rotated query. -/
theorem qrot (b : Fin 2) (h : Fin 16) (t : Fin 8192) (d : Fin 64) : val_main_v73 (F := Ideal) x0 x1 (ix4 b h t d)
    = rot (fun e => val_main_v7 (F := Ideal) x0 x1 (ix4 b h t e)) t d := by
  refine Eq.trans ?_ (quarters _ t d)
  pointwise [val_main_v73, val_main_v47, val_main_v39, val_main_v35, val_main_v31, val_main_v23, val_main_v34, val_main_v33, val_main_v38, val_main_v32, val_main_v37, val_main_v36, val_main_v46, val_main_v42, val_main_v41, val_main_v40, val_main_v45, val_main_v44, val_main_v43, val_main_v72, val_main_v64, val_main_v60, val_main_v56, val_main_v48, val_main_v59, val_main_v58, val_main_v63, val_main_v57, val_main_v62, val_main_v61, val_main_v71, val_main_v67, val_main_v66, val_main_v65, val_main_v70, val_main_v69, val_main_v68]

/-- A rotated key. -/
theorem krot (b : Fin 2) (h : Fin 2) (t : Fin 8192) (d : Fin 64) : val_main_v143 (F := Ideal) x0 x1 (ix4 b h t d)
    = rot (fun e => val_main_v77 (F := Ideal) x0 x1 (ix4 b h t e)) t d := by
  refine Eq.trans ?_ (quarters _ t d)
  rw [← RopeTab.cr', ← RopeTab.sr', ← RopeTab.cc', ← RopeTab.sc']
  pointwise [val_main_v143, val_main_v117, val_main_v109, val_main_v105, val_main_v101, val_main_v93, val_main_v104, val_main_v103, val_main_v108, val_main_v102, val_main_v107, val_main_v106, val_main_v116, val_main_v112, val_main_v111, val_main_v110, val_main_v115, val_main_v114, val_main_v113, val_main_v142, val_main_v134, val_main_v130, val_main_v126, val_main_v118, val_main_v129, val_main_v128, val_main_v133, val_main_v127, val_main_v132, val_main_v131, val_main_v141, val_main_v137, val_main_v136, val_main_v135, val_main_v140, val_main_v139, val_main_v138]

/-- An element of a row of heads, rotated against its partner sixteen columns away. -/
def wide (p : Fin 1280 → EReal) (t : Fin 8192) (j : Fin 1280) : EReal :=
  if j.val % 32 < 16 then p j * half RopeTab.cr RopeTab.cc t ⟨j.val % 64, by omega⟩ - p ⟨(j.val + 16) % 1280, by omega⟩ * half RopeTab.sr RopeTab.sc t ⟨j.val % 64, by omega⟩
  else p ⟨(j.val + 1264) % 1280, by omega⟩ * half RopeTab.sr RopeTab.sc t ⟨j.val % 64, by omega⟩ + p j * half RopeTab.cr RopeTab.cc t ⟨j.val % 64, by omega⟩

/-- A head's rotation is its row's. -/
theorem rot_wide (p : Fin 1280 → EReal) (q : Fin 64 → EReal) (t : Fin 8192) (d : Fin 64) (j : Fin 1280) (n : ℕ) (hn : n * 64 + 64 ≤ 1280) (hd : j.val = n * 64 + d.val)
    (hq : ∀ e : Fin 64, q e = p ⟨n * 64 + e.val, by omega⟩) : rot q t d = wide p t j := by
  unfold rot wide
  have ed : (⟨j.val % 64, by omega⟩ : Fin 64) = d := Fin.ext (by dsimp only; omega)
  have ej : q d = p j := (hq d).trans (congrArg p (Fin.ext (by dsimp only; omega)))
  rw [ed, ej]
  by_cases h : d.val % 32 < 16
  · rw [if_pos h, if_pos (by omega), hq ⟨(d.val + 16) % 64, by omega⟩]
    have e : (⟨n * 64 + (d.val + 16) % 64, by omega⟩ : Fin 1280) = ⟨(j.val + 16) % 1280, by omega⟩ := Fin.ext (by dsimp only; omega)
    rw [e]
  · rw [if_neg h, if_neg (by omega), hq ⟨(d.val + 48) % 64, by omega⟩]
    have e : (⟨n * 64 + (d.val + 48) % 64, by omega⟩ : Fin 1280) = ⟨(j.val + 1264) % 1280, by omega⟩ := Fin.ext (by dsimp only; omega)
    rw [e]

/-- A row of the projection. -/
def row (i : Fin 16384) : Fin 1280 → EReal := fun n => val_main_v2 (F := Ideal) x0 x1 (ix2 i n)

/-- The reference's element. -/
theorem result (i : Fin 16384) (j : Fin 1280) : (val_main_v149 (F := Ideal) x0 x1 (ix2 i j) : EReal)
    = if j.val < 1024 then wide (row x0 x1 i) ⟨i.val % 8192, by omega⟩ j * Ideal.ofBits .f32 0x3E000000#32
      else if j.val < 1152 then wide (row x0 x1 i) ⟨i.val % 8192, by omega⟩ j else row x0 x1 i j := by
  pointwise [val_main_v149, val_main_v148, val_main_v145, val_main_v144, val_main_v75, val_main_v74, val_main_cst_4, val_main_v147, val_main_v146, val_main_v5]
  by_cases h : j.val < 1024
  · rw [dif_pos h, if_pos h]
    refine congrArg (· * Ideal.ofBits .f32 0x3E000000#32) ((qrot x0 x1 _ _ _ _).trans (rot_wide _ _ _ _ _ (j.val / 64) (by omega) (by dsimp only; omega) fun e => ?_))
    refine (qry x0 x1 _ _ _ _).trans (congrArg (val_main_v2 (F := Ideal) x0 x1) ?_)
    exact congrArg₂ ix2 (Fin.ext (by dsimp only; omega)) rfl
  · rw [dif_neg h, if_neg h]
    by_cases h' : j.val < 1152
    · rw [dif_pos (by omega), if_pos h']
      refine (krot x0 x1 _ _ _ _).trans (rot_wide _ _ _ _ _ (j.val / 64) (by omega) (by dsimp only; omega) fun e => ?_)
      refine (key x0 x1 _ _ _ _).trans (congrArg (val_main_v2 (F := Ideal) x0 x1) ?_)
      exact congrArg₂ ix2 (Fin.ext (by dsimp only; omega)) (Fin.ext (by dsimp only; omega))
    · rw [dif_neg (by omega), if_neg h']
      exact congrArg (val_main_v2 (F := Ideal) x0 x1) (congrArg (ix2 i) (Fin.ext (by dsimp only; omega)))

end Cert.RopeRef

end
-- ==== Proof.ProjWindow.lean ====
/- The window attention's part of the input projection, with its rotation: the kernel's array is the reference's term. -/
module

public import proofs.«01_k».proof.Proof.RopeTile
public import proofs.«01_k».proof.Proof.RopeRef

@[expose] public section

set_option maxRecDepth 16384

noncomputable section

open Idealize.ShloMosaic Idealize.ShloMosaic.TcCoe Idealize.SL.Sem
open Idealize.ShloMosaic.Pipeline (Dat)

namespace Cert.ProjWindow

open Cert.Kernel9Ideal Cert.Kernel9Ideal.Gen

/-- What the tile's columns hold before rotation and scale. -/
def dotRow (A : FVec Ideal S1024x4096 .bf16) (B : FVec Ideal S4096x1280 .bf16) (r : Fin 1024) : Fin 1280 → EReal := fun n =>
  ∑ k : Fin 4096, A (ix2 r k) * B (ix2 k n)

/-- An element of a tile, from the blocks. -/
def elem (A : FVec Ideal S1024x4096 .bf16) (B : FVec Ideal S4096x1280 .bf16) (S : FVec Ideal S1x1280 .f32) (C N : FVec Ideal S1024x128 .f32)
    (r : Fin 1024) (j : Fin 1280) : EReal :=
  (if j.val < 1152 then dotRow A B r j * C (ix2 r ⟨j.val % 128, by omega⟩)
      + (if j.val % 32 < 16 then dotRow A B r ⟨(j.val + 16) % 1280, by omega⟩ else dotRow A B r ⟨(j.val + 1264) % 1280, by omega⟩) * N (ix2 r ⟨j.val % 128, by omega⟩)
    else dotRow A B r j) * S (ix2 0 j)

/-- A rotated slice of the tile holds the tile's elements. -/
theorem glue (A : FVec Ideal S1024x4096 .bf16) (B : FVec Ideal S4096x1280 .bf16) (S : FVec Ideal S1x1280 .f32) (C N X C' N' : FVec Ideal S1024x128 .f32) (s : FVec Ideal S1x128 .f32)
    (off : ℕ) (ho : off % 128 = 0) (hb : off + 128 ≤ 1152) (r : Fin 1024) (l : Fin 128)
    (hX : ∀ l : Fin 128, X (ix2 r l) = dotRow A B r ⟨off + l.val, by omega⟩) (hC : C' (ix2 r l) = C (ix2 r l)) (hN : N' (ix2 r l) = N (ix2 r l))
    (hs : s (ix2 0 l) = S (ix2 0 ⟨off + l.val, by omega⟩)) (j : Fin 1280) (hj : j.val = off + l.val) :
    (X (ix2 r l) * C' (ix2 r l) + (if l.val % 32 < 16 then X (ix2 r ⟨(l.val + 16) % 128, by omega⟩) else X (ix2 r ⟨(l.val + 112) % 128, by omega⟩)) * N' (ix2 r l)) * s (ix2 0 l)
      = elem A B S C N r j := by
  unfold elem
  have hl := l.isLt
  have hlt : off + l.val < 1280 := by clear hj; omega
  obtain rfl : j = ⟨off + l.val, hlt⟩ := Fin.ext hj
  have e1 : (⟨(off + l.val) % 128, by omega⟩ : Fin 128) = l := Fin.ext (by dsimp only; omega)
  have h1 : off + l.val < 1152 := by omega
  have hc : ((off + l.val) % 32 < 16) = (l.val % 32 < 16) := by
    have : (off + l.val) % 32 = l.val % 32 := by omega
    rw [this]
  dsimp only
  simp only [h1, hc, ↓reduceIte, e1, hC, hN, hs]
  by_cases h : l.val % 32 < 16
  · have e2 : (⟨(off + l.val + 16) % 1280, by omega⟩ : Fin 1280) = ⟨off + (l.val + 16) % 128, by omega⟩ := Fin.ext (by dsimp only; omega)
    simp only [h, ↓reduceIte, hX, e2]
  · have e2 : (⟨(off + l.val + 1264) % 1280, by omega⟩ : Fin 1280) = ⟨off + (l.val + 112) % 128, by omega⟩ := Fin.ext (by dsimp only; omega)
    simp only [h, ↓reduceIte, hX, e2]

/-- An element of the block the kernel leaves, from the blocks it reads. -/
theorem tile (A : FVec Ideal S1024x4096 .bf16) (B : FVec Ideal S4096x1280 .bf16) (S : FVec Ideal S1x1280 .f32) (C N : FVec Ideal S1024x128 .f32) (y : S1024x1280.Idx) :
    (out0_5 (F := Ideal) A B S C N y : EReal) = elem A B S C N (y 0) (y 1) := by
  frame_out
  canon_tiles x hx
  case piece0 =>
    have e0 : y 0 = x 0 := Fin.ext hx0
    have e1 : y 1 = (⟨1152 + (x 1).val, by omega⟩ : Fin 1280) := Fin.ext hx1
    rw [e0, e1]
    unfold elem
    rw [if_neg (by dsimp only; omega)]
    pointwise [k0_pay2, k0_pay3, k0_pay41, dotRow]
  case piece1 =>
    have e0 : y 0 = x 0 := Fin.ext hx0
    rw [e0]
    refine (congrArg _ (eq_ix2 x)).trans ((RopeTile.rope_apply _ _ _ _ _ _).trans
      (glue A B S C N _ _ _ _ 1024 (by decide) (by decide) (x 0) (x 1) (fun l => ?_) ?_ ?_ ?_ (y 1) hx1))
    · pointwise [k0_pay3, k0_pay9, k0_pay14, k0_pay26, k0_pay30, k0_pay38, k0_pay41, dotRow]
    · pointwise [k0_pay4, k0_pay42]
    · pointwise [k0_pay5, k0_pay43]
    · pointwise []
  case piece2 =>
    have e0 : y 0 = x 0 := Fin.ext hx0
    rw [e0]
    refine (congrArg _ (eq_ix2 x)).trans ((RopeTile.rope_apply _ _ _ _ _ _).trans
      (glue A B S C N _ _ _ _ 896 (by decide) (by decide) (x 0) (x 1) (fun l => ?_) ?_ ?_ ?_ (y 1) hx1))
    · pointwise [k0_pay3, k0_pay9, k0_pay14, k0_pay26, k0_pay30, k0_pay38, k0_pay41, dotRow]
    · pointwise [k0_pay4, k0_pay42]
    · pointwise [k0_pay5, k0_pay43]
    · pointwise []
  case piece3 =>
    have e0 : y 0 = x 0 := Fin.ext hx0
    rw [e0]
    refine (congrArg _ (eq_ix2 x)).trans ((RopeTile.rope_apply _ _ _ _ _ _).trans
      (glue A B S C N _ _ _ _ 768 (by decide) (by decide) (x 0) (x 1) (fun l => ?_) ?_ ?_ ?_ (y 1) hx1))
    · pointwise [k0_pay3, k0_pay9, k0_pay14, k0_pay26, k0_pay30, k0_pay38, k0_pay41, dotRow]
    · pointwise [k0_pay4, k0_pay42]
    · pointwise [k0_pay5, k0_pay43]
    · pointwise []
  case piece4 =>
    have e0 : y 0 = x 0 := Fin.ext hx0
    rw [e0]
    refine (congrArg _ (eq_ix2 x)).trans ((RopeTile.rope_apply _ _ _ _ _ _).trans
      (glue A B S C N _ _ _ _ 640 (by decide) (by decide) (x 0) (x 1) (fun l => ?_) ?_ ?_ ?_ (y 1) hx1))
    · pointwise [k0_pay3, k0_pay9, k0_pay14, k0_pay26, k0_pay30, k0_pay38, k0_pay41, dotRow]
    · pointwise [k0_pay4, k0_pay42]
    · pointwise [k0_pay5, k0_pay43]
    · pointwise []
  case piece5 =>
    have e0 : y 0 = x 0 := Fin.ext hx0
    rw [e0]
    refine (congrArg _ (eq_ix2 x)).trans ((RopeTile.rope_apply _ _ _ _ _ _).trans
      (glue A B S C N _ _ _ _ 512 (by decide) (by decide) (x 0) (x 1) (fun l => ?_) ?_ ?_ ?_ (y 1) hx1))
    · pointwise [k0_pay3, k0_pay9, k0_pay14, k0_pay26, k0_pay30, k0_pay38, k0_pay41, dotRow]
    · pointwise [k0_pay4, k0_pay42]
    · pointwise [k0_pay5, k0_pay43]
    · pointwise []
  case piece6 =>
    have e0 : y 0 = x 0 := Fin.ext hx0
    rw [e0]
    refine (congrArg _ (eq_ix2 x)).trans ((RopeTile.rope_apply _ _ _ _ _ _).trans
      (glue A B S C N _ _ _ _ 384 (by decide) (by decide) (x 0) (x 1) (fun l => ?_) ?_ ?_ ?_ (y 1) hx1))
    · pointwise [k0_pay3, k0_pay9, k0_pay14, k0_pay26, k0_pay30, k0_pay38, k0_pay41, dotRow]
    · pointwise [k0_pay4, k0_pay42]
    · pointwise [k0_pay5, k0_pay43]
    · pointwise []
  case piece7 =>
    have e0 : y 0 = x 0 := Fin.ext hx0
    rw [e0]
    refine (congrArg _ (eq_ix2 x)).trans ((RopeTile.rope_apply _ _ _ _ _ _).trans
      (glue A B S C N _ _ _ _ 256 (by decide) (by decide) (x 0) (x 1) (fun l => ?_) ?_ ?_ ?_ (y 1) hx1))
    · pointwise [k0_pay3, k0_pay9, k0_pay14, k0_pay26, k0_pay30, k0_pay38, k0_pay41, dotRow]
    · pointwise [k0_pay4, k0_pay42]
    · pointwise [k0_pay5, k0_pay43]
    · pointwise []
  case piece8 =>
    have e0 : y 0 = x 0 := Fin.ext hx0
    rw [e0]
    refine (congrArg _ (eq_ix2 x)).trans ((RopeTile.rope_apply _ _ _ _ _ _).trans
      (glue A B S C N _ _ _ _ 128 (by decide) (by decide) (x 0) (x 1) (fun l => ?_) ?_ ?_ ?_ (y 1) hx1))
    · pointwise [k0_pay3, k0_pay9, k0_pay14, k0_pay26, k0_pay30, k0_pay38, k0_pay41, dotRow]
    · pointwise [k0_pay4, k0_pay42]
    · pointwise [k0_pay5, k0_pay43]
    · pointwise []
  case piece9 =>
    have e0 : y 0 = x 0 := Fin.ext hx0
    rw [e0]
    refine (congrArg _ (eq_ix2 x)).trans ((RopeTile.rope_apply _ _ _ _ _ _).trans
      (glue A B S C N _ _ _ _ 0 (by decide) (by decide) (x 0) (x 1) (fun l => ?_) ?_ ?_ ?_ (y 1) (hx1.trans (Nat.zero_add _).symm)))
    · pointwise [k0_pay3, k0_pay9, k0_pay14, k0_pay26, k0_pay30, k0_pay38, k0_pay41, dotRow]
    · pointwise [k0_pay4, k0_pay42]
    · pointwise [k0_pay5, k0_pay43]
    · pointwise []

variable (m : (ℓ : Loc nD τ sig) → Buf (Elt Ideal) ℓ)

/-- The block each window takes at a grid point. -/
theorem idx : ∀ t : Fin cfg0.N, win0_0.index t = ![(grid0.coords t 0).val, 0]
    ∧ win0_1.index t = ![0, (grid0.coords t 1).val]
    ∧ win0_2.index t = ![0, (grid0.coords t 1).val]
    ∧ win0_3.index t = ![(grid0.coords t 0).val % 8, 0]
    ∧ win0_4.index t = ![(grid0.coords t 0).val % 8, 0]
    ∧ win0_5.index t = ![(grid0.coords t 0).val, (grid0.coords t 1).val]
    ∧ (grid0.coords t 1).val = 0 :=
  (by decide +kernel : ∀ t : Fin grid0.N, _)

/-- The host's array of weights is the reference's slice of the argument. -/
theorem weights (c : Dev nD) : V m c main_v52 = Reference9Ideal.Read.val_main_v1 (F := Ideal) (m ((c : Thread nD τ).loc main_arg1)) := by
  unfold V
  after_reads_simp
  rfl

/-- The host's row of column scales. -/
theorem scales (c : Dev nD) (j : Fin 1280) : V m c main_v50 (ix2 0 j) = if j.val < 1024 then Ideal.ofBits .f32 0x3E000000#32 else 1 := by
  unfold V
  after_reads_simp
  pointwise
  after_reads_simp
  pointwise
  simp only [dite_eq_ite]

/-- The block of activations at a grid point. -/
abbrev hB (c : Dev nD) (t : Fin cfg0.N) : FVec Ideal S1024x4096 .bf16 := iblk m c 0 t
/-- The block of weights at a grid point. -/
abbrev wB (c : Dev nD) (t : Fin cfg0.N) : FVec Ideal S4096x1280 .bf16 := iblk m c 1 t
/-- The block of column scales at a grid point. -/
abbrev sB (c : Dev nD) (t : Fin cfg0.N) : FVec Ideal S1x1280 .f32 := iblk m c 2 t
/-- The block of cosines at a grid point. -/
abbrev cB (c : Dev nD) (t : Fin cfg0.N) : FVec Ideal S1024x128 .f32 := iblk m c 3 t
/-- The block of signed sines at a grid point. -/
abbrev nB (c : Dev nD) (t : Fin cfg0.N) : FVec Ideal S1024x128 .f32 := iblk m c 4 t

set_option maxHeartbeats 1600000 in
/-- A row of a tile before rotation and scale is the reference's. -/
theorem dots (c : Dev nD) (t : Fin cfg0.N) (r : Fin 1024) (i : Fin 16384) (hi : i.val = (grid0.coords t 0).val * 1024 + r.val) :
    dotRow (hB m c t) (wB m c t) r = RopeRef.row (m ((c : Thread nD τ).loc main_arg0)) (m ((c : Thread nD τ).loc main_arg1)) i := by
  funext n
  unfold dotRow RopeRef.row
  rw [Reference9Ideal.Read.val_main_v2_apply]
  refine Finset.sum_congr rfl fun k _ => ?_
  rw [Reference9Ideal.Read.val_main_v0_apply, ← weights m c]
  have hz := (idx t).2.2.2.2.2.2
  blk_simp [iblk, hB, wB]
  congr 1
  · blk_ext [idx t]
  · blk_ext [idx t, hz]

/-- A block of column scales holds the host's row. -/
theorem scale (c : Dev nD) (t : Fin cfg0.N) (j : Fin 1280) : sB m c t (ix2 0 j) = if j.val < 1024 then Ideal.ofBits .f32 0x3E000000#32 else 1 := by
  rw [← scales m c j]
  have hz := (idx t).2.2.2.2.2.2
  blk_simp [iblk, sB]
  blk_ext [idx t, hz]

set_option maxHeartbeats 1600000 in
/-- A block of cosines holds the rows of its positions. -/
theorem cosine (c : Dev nD) (t : Fin cfg0.N) (r : Fin 1024) (l : Fin 128) (i : Fin 16384) (hi : i.val = (grid0.coords t 0).val * 1024 + r.val) :
    cB m c t (ix2 r l) = RopeRef.half RopeTab.cr RopeTab.cc ⟨i.val % 8192, by omega⟩ ⟨l.val % 64, by omega⟩ := by
  have e : cB m c t (ix2 r l) = V m c main_v43 (ix2 ⟨i.val % 8192, by omega⟩ l) := by
    have hr := r.isLt
    blk_simp [iblk, cB]
    blk_ext [idx t]
  rw [e, RopeTab.cosines, RopeTab.spread_apply]
  unfold RopeRef.half
  have em : (⟨l.val % 64 % 16, by omega⟩ : Fin 16) = ⟨l.val % 16, by omega⟩ := Fin.ext (by dsimp only; omega)
  simp only [em]
  split_ifs
  all_goals first | rfl | (exfalso; omega)

set_option maxHeartbeats 1600000 in
/-- A block of signed sines holds the rows of its positions. -/
theorem sine (c : Dev nD) (t : Fin cfg0.N) (r : Fin 1024) (l : Fin 128) (i : Fin 16384) (hi : i.val = (grid0.coords t 0).val * 1024 + r.val) :
    (nB m c t (ix2 r l) : EReal) = if l.val % 32 < 16 then -RopeRef.half RopeTab.sr RopeTab.sc ⟨i.val % 8192, by omega⟩ ⟨l.val % 64, by omega⟩
      else RopeRef.half RopeTab.sr RopeTab.sc ⟨i.val % 8192, by omega⟩ ⟨l.val % 64, by omega⟩ := by
  have e : nB m c t (ix2 r l) = V m c main_v46 (ix2 ⟨i.val % 8192, by omega⟩ l) := by
    have hr := r.isLt
    blk_simp [iblk, nB]
    blk_ext [idx t]
  rw [e, RopeTab.sines, RopeTab.spread_apply]
  unfold RopeRef.half
  have em : (⟨l.val % 64 % 16, by omega⟩ : Fin 16) = ⟨l.val % 16, by omega⟩ := Fin.ext (by dsimp only; omega)
  simp only [em]
  split_ifs
  all_goals first | rfl | (exfalso; omega)

/-- A tile's element is the reference's at its row. -/
theorem point (c : Dev nD) (t : Fin cfg0.N) (r : Fin 1024) (j : Fin 1280) (i : Fin 16384) (hi : i.val = (grid0.coords t 0).val * 1024 + r.val) :
    elem (hB m c t) (wB m c t) (sB m c t) (cB m c t) (nB m c t) r j
      = Reference9Ideal.Read.val_main_v149 (F := Ideal) (m ((c : Thread nD τ).loc main_arg0)) (m ((c : Thread nD τ).loc main_arg1)) (ix2 i j) := by
  refine Eq.trans ?_ (RopeRef.result _ _ _ _).symm
  unfold elem RopeRef.wide
  rw [dots m c t r i hi, scale, cosine m c t r _ i hi, sine m c t r _ i hi]
  have em : (⟨j.val % 128 % 64, by omega⟩ : Fin 64) = ⟨j.val % 64, by omega⟩ := Fin.ext (by dsimp only; omega)
  have ec : (j.val % 128 % 32 < 16) = (j.val % 32 < 16) := by
    have : j.val % 128 % 32 = j.val % 32 := by omega
    rw [this]
  simp only [em, ec]
  by_cases h : j.val % 32 < 16
  · simp only [h, ↓reduceIte]
    rw [mul_neg, ← sub_eq_add_neg]
    by_cases h1 : j.val < 1024
    · have h2 : j.val < 1152 := by omega
      simp only [h1, h2, ↓reduceIte]
    · simp only [h1, ↓reduceIte, mul_one]
  · simp only [h, ↓reduceIte]
    rw [add_comm]
    by_cases h1 : j.val < 1024
    · have h2 : j.val < 1152 := by omega
      simp only [h1, h2, ↓reduceIte]
    · simp only [h1, ↓reduceIte, mul_one]

/-- After the run, the output array is the reference's term of the arguments. -/
theorem final (c : Dev nD) : (dats m 0 c).arrAt 5 (cfgs 0).N
    = Reference9Ideal.Read.val_main_v149 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  refine (tile (hB m c t) (wB m c t) (sB m c t) (cB m c t) (nB m c t) y).trans ((point m c t (y 0) (y 1) ((((cfg0.win 5).blk t).view.emb y) 0) ?_).trans ?_)
  · have e : (((win0_5.blk t).view.emb y) 0).val = win0_5.index t 0 * 1024 + (y 0).val := Pipeline.Window.rect_emb_val win0_5 t y 0
    refine e.trans ?_
    rw [(idx t).2.2.2.2.2.1]
    rfl
  refine congrArg _ ?_
  have hz := (idx t).2.2.2.2.2.2
  refine Eq.trans ?_ (eq_ix2 _).symm
  refine congrArg₂ ix2 rfl (Fin.ext ?_)
  · have e : (((win0_5.blk t).view.emb y) 1).val = win0_5.index t 1 * 1280 + (y 1).val := Pipeline.Window.rect_emb_val win0_5 t y 1
    refine Eq.trans ?_ e.symm
    rw [(idx t).2.2.2.2.2.1]
    show (y 1).val = (grid0.coords t 1).val * 1280 + (y 1).val
    omega

end Cert.ProjWindow

end
-- ==== Proof.Swiglu.lean ====
/- The feed-forward up call: its output array is the reference's term. -/
module

public import proofs.«01_k».proof.Proof.Gen.Kernel2Ideal.Frame
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Swiglu

open Cert.Kernel2Ideal Cert.Kernel2Ideal.Gen

variable (m : (ℓ : Loc nD τ sig) → Buf (Elt Ideal) ℓ)

/-- The block each window takes at a grid point. -/
theorem idx : ∀ t : Fin cfg0.N, win0_0.index t = ![(grid0.coords t 0).val, 0] ∧ win0_1.index t = ![0, (grid0.coords t 1).val]
    ∧ win0_2.index t = ![0, (grid0.coords t 1).val] ∧ win0_3.index t = ![(grid0.coords t 0).val, (grid0.coords t 1).val] :=
  (by decide +kernel : ∀ t : Fin grid0.N, _)

/-- A host array of gate weights is the argument. -/
theorem wgate (c : Dev nD) : V m c main_v0 = m ((c : Thread nD τ).loc main_arg1) := by
  entry_read
  rfl

/-- A host array of up weights is the argument. -/
theorem wup (c : Dev nD) : V m c main_v1 = m ((c : Thread nD τ).loc main_arg2) := by
  entry_read
  rfl

/-- The block of `h` at a grid point. -/
abbrev hB (c : Dev nD) (t : Fin cfg0.N) : FVec Ideal S1024x4096 .bf16 := iblk m c 0 t
/-- The block of gate weights at a grid point. -/
abbrev gB (c : Dev nD) (t : Fin cfg0.N) : FVec Ideal S4096x256 .bf16 := iblk m c 1 t
/-- The block of up weights at a grid point. -/
abbrev uB (c : Dev nD) (t : Fin cfg0.N) : FVec Ideal S4096x256 .bf16 := iblk m c 2 t

/-- One element of a tile, from the blocks: the gated product of the two dot products. -/
theorem tile (A : FVec Ideal S1024x4096 .bf16) (B D : FVec Ideal S4096x256 .bf16) (y : S1024x256.Idx) (g u : EReal)
    (hg : (∑ k : Fin 4096, A (ix2 (y 0) k) * B (ix2 k (y 1))) = g) (hu : (∑ k : Fin 4096, A (ix2 (y 0) k) * D (ix2 k (y 1))) = u) :
    (k0_pay1 (F := Ideal) A B D y : EReal) = g * Ideal.div 1 (1 + Ideal.exp (-g)) * u := by
  pointwise [k0_pay1]
  rw [hg, hu, zero_sub]

/-- The gate product of a tile is the reference's at the tile's place. -/
theorem gate (c : Dev nD) (t : Fin cfg0.N) (y : S1024x256.Idx) :
    (∑ k : Fin 4096, hB m c t (ix2 (y 0) k) * gB m c t (ix2 k (y 1)))
      = Reference2Ideal.Read.val_main_v1 (F := Ideal) (m ((c : Thread nD τ).loc main_arg0)) (m ((c : Thread nD τ).loc main_arg1))
          (((cfg0.win 3).blk t).view.emb y) := by
  rw [Reference2Ideal.Read.val_main_v1_apply]
  refine Finset.sum_congr rfl fun k _ => ?_
  rw [← wgate m c]
  blk_simp [iblk, hB, gB, uB]
  congr 1
  · blk_ext [idx t]
  · blk_ext [idx t]

/-- The up product of a tile is the reference's at the tile's place. -/
theorem up (c : Dev nD) (t : Fin cfg0.N) (y : S1024x256.Idx) :
    (∑ k : Fin 4096, hB m c t (ix2 (y 0) k) * uB m c t (ix2 k (y 1)))
      = Reference2Ideal.Read.val_main_v3 (F := Ideal) (m ((c : Thread nD τ).loc main_arg0)) (m ((c : Thread nD τ).loc main_arg2))
          (((cfg0.win 3).blk t).view.emb y) := by
  rw [Reference2Ideal.Read.val_main_v3_apply]
  refine Finset.sum_congr rfl fun k _ => ?_
  rw [← wup m c]
  blk_simp [iblk, hB, gB, uB]
  congr 1
  · blk_ext [idx t]
  · blk_ext [idx t]

/-- One element of the tile computed at a grid point is the reference's element at its place in the array. -/
theorem point (c : Dev nD) (t : Fin cfg0.N) (y : S1024x256.Idx) :
    k0_pay1 (iblk m c 0 t) (iblk m c 1 t) (iblk m c 2 t) y
      = Reference2Ideal.Read.val_main_v5 (F := Ideal) (m ((c : Thread nD τ).loc main_arg0)) (m ((c : Thread nD τ).loc main_arg1))
          (m ((c : Thread nD τ).loc main_arg2)) (((cfg0.win 3).blk t).view.emb y) := by
  rw [Reference2Ideal.Read.val_main_v5_apply, Reference2Ideal.Read.val_main_v4_apply, Reference2Ideal.Read.val_main_v2_apply,
    Reference2Ideal.Read.val_main_call0_v5_apply, Reference2Ideal.Read.val_main_call0_v4_apply,
    Reference2Ideal.Read.val_main_call0_v3_apply, Reference2Ideal.Read.val_main_call0_v2_apply,
    Reference2Ideal.Read.val_main_call0_v1_apply, Reference2Ideal.Read.val_main_call0_v0_apply,
    Reference2Ideal.Read.val_main_call0_cst_apply, Reference2Ideal.Read.val_main_call0_cst_0_apply]
  refine (tile (hB m c t) (gB m c t) (uB m c t) y _ _ (gate m c t y) (up m c t y)).trans ?_
  pointwise

/-- After the run, the output array is the reference's term of the arguments. -/
theorem final (c : Dev nD) : (dats m 0 c).arrAt 3 (cfgs 0).N
    = Reference2Ideal.Read.val_main_v5 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point m c t y

end Cert.Swiglu

end
-- ==== Proof.lean ====
/- The proof of the claim: each conjunct from its module. -/
module

public import proofs.«01_k».proof.Defs
public import proofs.«01_k».proof.Proof.FfnDown
public import proofs.«01_k».proof.Proof.Gen.Kernel
public import proofs.«01_k».proof.Proof.Gen.Kernel.Frame
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.KernelIdeal
public import proofs.«01_k».proof.Proof.Gen.KernelIdeal.Frame
public import proofs.«01_k».proof.Proof.Gen.Pre_finite_scores
public import proofs.«01_k».proof.Proof.Gen.Reference10Ideal
public import proofs.«01_k».proof.Proof.Gen.Reference10Ideal.Read
public import proofs.«01_k».proof.Proof.Gen.Reference10Ideal.Run
public import proofs.«01_k».proof.Proof.Gen.Reference11Ideal
public import proofs.«01_k».proof.Proof.Gen.Reference11Ideal.Read
public import proofs.«01_k».proof.Proof.Gen.Reference11Ideal.Run
public import proofs.«01_k».proof.Proof.Gen.Reference12Ideal
public import proofs.«01_k».proof.Proof.Gen.Reference12Ideal.Read
public import proofs.«01_k».proof.Proof.Gen.Reference12Ideal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run
public import proofs.«01_k».proof.Proof.Gen.Reference8Ideal
public import proofs.«01_k».proof.Proof.Gen.Reference8Ideal.Run
public import proofs.«01_k».proof.Proof.Gen.Reference9Ideal
public import proofs.«01_k».proof.Proof.Gen.Reference9Ideal.Read
public import proofs.«01_k».proof.Proof.Gen.Reference9Ideal.Run
public import proofs.«01_k».proof.Proof.Gen.ReferenceIdeal
public import proofs.«01_k».proof.Proof.Gen.ReferenceIdeal.Read
public import proofs.«01_k».proof.Proof.Gen.ReferenceIdeal.Run
public import proofs.«01_k».proof.Proof.LastNorm
public import proofs.«01_k».proof.Proof.Merge
public import proofs.«01_k».proof.Proof.Modulation
public import proofs.«01_k».proof.Proof.NaAttn
public import proofs.«01_k».proof.Proof.NormMod
public import proofs.«01_k».proof.Proof.OutProj
public import proofs.«01_k».proof.Proof.ProjGates
public import proofs.«01_k».proof.Proof.ProjHgrn
public import proofs.«01_k».proof.Proof.ProjNa
public import proofs.«01_k».proof.Proof.ProjWindow
public import proofs.«01_k».proof.Proof.Swiglu
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference's run ends and leaves its arguments as they were. -/
theorem frame_quiescent_ReferenceIdeal : Cert.quiescent_ReferenceIdeal := fun m ρ _ =>
  (θ_run _ _ _).mono (fun r h => ⟨fun c => (h c).2, sem_eq_zero_of_no_sems rfl _⟩) (Cert.ReferenceIdeal.Value.run m ρ)

/-- The reference's run ends and leaves its arguments as they were. -/
theorem frame_quiescent_ReferenceIdeal_pre_finite_scores : Cert.quiescent_ReferenceIdeal_pre_finite_scores := fun m ρ _ =>
  (θ_run _ _ _).mono (fun r h => ⟨fun c => (h c).2, sem_eq_zero_of_no_sems rfl _⟩) (Cert.ReferenceIdeal.Value.run m ρ)

/-- The reference's run ends and leaves its arguments as they were. -/
theorem frame_quiescent_Reference2Ideal : Cert.quiescent_Reference2Ideal := fun m ρ _ =>
  (θ_run _ _ _).mono (fun r h => ⟨fun c => (h c).2, sem_eq_zero_of_no_sems rfl _⟩) (Cert.Reference2Ideal.Value.run m ρ)

/-- The reference's run ends and leaves its arguments as they were. -/
theorem frame_quiescent_Reference3Ideal : Cert.quiescent_Reference3Ideal := fun m ρ _ =>
  (θ_run _ _ _).mono (fun r h => ⟨fun c => (h c).2, sem_eq_zero_of_no_sems rfl _⟩) (Cert.Reference3Ideal.Value.run m ρ)

/-- The reference's run ends and leaves its arguments as they were. -/
theorem frame_quiescent_Reference4Ideal : Cert.quiescent_Reference4Ideal := fun m ρ _ =>
  (θ_run _ _ _).mono (fun r h => ⟨fun c => (h c).2, sem_eq_zero_of_no_sems rfl _⟩) (Cert.Reference4Ideal.Value.run m ρ)

/-- The reference's run ends and leaves its arguments as they were. -/
theorem frame_quiescent_Reference5Ideal : Cert.quiescent_Reference5Ideal := fun m ρ _ =>
  (θ_run _ _ _).mono (fun r h => ⟨fun c => (h c).2, sem_eq_zero_of_no_sems rfl _⟩) (Cert.Reference5Ideal.Value.run m ρ)

/-- The reference's run ends and leaves its arguments as they were. -/
theorem frame_quiescent_Reference6Ideal : Cert.quiescent_Reference6Ideal := fun m ρ _ =>
  (θ_run _ _ _).mono (fun r h => ⟨fun c => (h c).2, sem_eq_zero_of_no_sems rfl _⟩) (Cert.Reference6Ideal.Value.run m ρ)

/-- The reference's run ends and leaves its arguments as they were. -/
theorem frame_quiescent_Reference7Ideal : Cert.quiescent_Reference7Ideal := fun m ρ _ =>
  (θ_run _ _ _).mono (fun r h => ⟨fun c => (h c).2, sem_eq_zero_of_no_sems rfl _⟩) (Cert.Reference7Ideal.Value.run m ρ)

/-- The reference's run ends and leaves its arguments as they were. -/
theorem frame_quiescent_Reference8Ideal : Cert.quiescent_Reference8Ideal := fun m ρ _ =>
  (θ_run _ _ _).mono (fun r h => ⟨fun c => (h c).2, sem_eq_zero_of_no_sems rfl _⟩) (Cert.Reference8Ideal.Value.run m ρ)

/-- The reference's run ends and leaves its arguments as they were. -/
theorem frame_quiescent_Reference9Ideal : Cert.quiescent_Reference9Ideal := fun m ρ _ =>
  (θ_run _ _ _).mono (fun r h => ⟨fun c => (h c).2, sem_eq_zero_of_no_sems rfl _⟩) (Cert.Reference9Ideal.Value.run m ρ)

/-- The reference's run ends and leaves its arguments as they were. -/
theorem frame_quiescent_Reference10Ideal : Cert.quiescent_Reference10Ideal := fun m ρ _ =>
  (θ_run _ _ _).mono (fun r h => ⟨fun c => (h c).2, sem_eq_zero_of_no_sems rfl _⟩) (Cert.Reference10Ideal.Value.run m ρ)

/-- The reference's run ends and leaves its arguments as they were. -/
theorem frame_quiescent_Reference11Ideal : Cert.quiescent_Reference11Ideal := fun m ρ _ =>
  (θ_run _ _ _).mono (fun r h => ⟨fun c => (h c).2, sem_eq_zero_of_no_sems rfl _⟩) (Cert.Reference11Ideal.Value.run m ρ)

/-- The reference's run ends and leaves its arguments as they were. -/
theorem frame_quiescent_Reference12Ideal : Cert.quiescent_Reference12Ideal := fun m ρ _ =>
  (θ_run _ _ _).mono (fun r h => ⟨fun c => (h c).2, sem_eq_zero_of_no_sems rfl _⟩) (Cert.Reference12Ideal.Value.run m ρ)

/-- The kernel's result is the reference's, at every argument of the precondition. -/
theorem value_algebraic_KernelIdeal_ReferenceIdeal_pre_finite_scores : Cert.algebraic_KernelIdeal_ReferenceIdeal_pre_finite_scores := by
  pair_intro
  · run_from Cert.KernelIdeal.Gen.run_main m g
  · run_from Cert.ReferenceIdeal.Value.run m' g'
    refine (Cert.ReferenceIdeal.Read.val_main_v125_eq m' c).trans ?_
    rw [(hagree c).1, (hagree c).2.1, (hagree c).2.2]
    exact (Cert.NaAttn.final m c hpre).symm

/-- The kernel's result is the reference's, at every argument. -/
theorem value_algebraic_Kernel2Ideal_Reference2Ideal : Cert.algebraic_Kernel2Ideal_Reference2Ideal := by
  pair_intro
  · run_from Cert.Kernel2Ideal.Gen.run_main m g
  · run_from Cert.Reference2Ideal.Value.run m' g'
    exact (Cert.Swiglu.final m c).symm

/-- The kernel's result is the reference's, at every argument. -/
theorem value_algebraic_Kernel3Ideal_Reference3Ideal : Cert.algebraic_Kernel3Ideal_Reference3Ideal := by
  pair_intro
  · run_from Cert.Kernel3Ideal.Gen.run_main m g
  · run_from Cert.Reference3Ideal.Value.run m' g'
    exact (Cert.FfnDown.final m c).symm

/-- The kernel's result is the reference's, at every argument. -/
theorem value_algebraic_Kernel4Ideal_Reference4Ideal : Cert.algebraic_Kernel4Ideal_Reference4Ideal := by
  pair_intro
  · run_from Cert.Kernel4Ideal.Gen.run_main m g
  · run_from Cert.Reference4Ideal.Value.run m' g'
    exact (Cert.OutProj.final m c).symm

/-- The kernel's result is the reference's, at every argument. -/
theorem value_algebraic_Kernel5Ideal_Reference5Ideal : Cert.algebraic_Kernel5Ideal_Reference5Ideal := by
  pair_intro
  · run_from Cert.Kernel5Ideal.Gen.run_main m g
  · run_from Cert.Reference5Ideal.Value.run m' g'
    exact (Cert.Merge.final m c).symm

/-- The kernel's result is the reference's, at every argument. -/
theorem value_algebraic_Kernel6Ideal_Reference6Ideal : Cert.algebraic_Kernel6Ideal_Reference6Ideal := by
  pair_intro
  · run_from Cert.Kernel6Ideal.Gen.run_main m g
  · run_from Cert.Reference6Ideal.Value.run m' g'
    exact (Cert.ProjHgrn.final m c).symm

/-- The kernel's result is the reference's, at every argument. -/
theorem value_algebraic_Kernel7Ideal_Reference7Ideal : Cert.algebraic_Kernel7Ideal_Reference7Ideal := by
  pair_intro
  · run_from Cert.Kernel7Ideal.Gen.run_main m g
  · run_from Cert.Reference7Ideal.Value.run m' g'
    exact (Cert.ProjNa.final m c).symm

/-- The kernel's result is the reference's, at every argument. -/
theorem value_algebraic_Kernel8Ideal_Reference8Ideal : Cert.algebraic_Kernel8Ideal_Reference8Ideal := by
  pair_intro
  · run_from Cert.Kernel8Ideal.Gen.run_main m g
  · run_from Cert.Reference8Ideal.Value.run m' g'
    exact (Cert.ProjGates.final m c).symm

/-- The kernel's result is the reference's, at every argument. -/
theorem value_algebraic_Kernel9Ideal_Reference9Ideal : Cert.algebraic_Kernel9Ideal_Reference9Ideal := by
  pair_intro
  · run_from Cert.Kernel9Ideal.Gen.run_main m g
    exact Cert.Kernel9Ideal.Gen.V_main_arg1 m c
  · run_from Cert.Reference9Ideal.Value.run m' g'
    refine (Cert.Reference9Ideal.Read.val_main_v149_eq _).trans ?_
    refine Eq.trans ?_ (Cert.ProjWindow.final m c).symm
    exact congrArg₂ (Cert.Reference9Ideal.Read.val_main_v149 (F := Ideal)) (hagree c).1 (hagree c).2

/-- The kernel's result is the reference's, at every argument. -/
theorem value_algebraic_Kernel10Ideal_Reference10Ideal : Cert.algebraic_Kernel10Ideal_Reference10Ideal := by
  pair_intro
  · run_from Cert.Kernel10Ideal.Gen.run_main m g
  · run_from Cert.Reference10Ideal.Value.run m' g'
    exact (Cert.NormMod.final m c).symm

/-- The kernel's result is the reference's, at every argument. -/
theorem value_algebraic_Kernel11Ideal_Reference11Ideal : Cert.algebraic_Kernel11Ideal_Reference11Ideal := by
  pair_intro
  · run_from Cert.Kernel11Ideal.Gen.run_main m g
    exact Cert.Kernel11Ideal.Gen.W_main_arg1 m (Cert.Kernel11Ideal.Gen.dats m) c
  · run_from Cert.Reference11Ideal.Value.run m' g'
    refine (Cert.LastNorm.result _ _).symm.trans ?_
    refine Eq.trans ?_ (Cert.LastNorm.tail m c).symm
    rw [Cert.LastNorm.final m c]

/-- The kernel's result is the reference's, at every argument. -/
theorem value_algebraic_Kernel12Ideal_Reference12Ideal : Cert.algebraic_Kernel12Ideal_Reference12Ideal := by
  pair_intro
  · run_from Cert.Kernel12Ideal.Gen.run_main m g
  · run_from Cert.Reference12Ideal.Value.run m' g'
    refine Eq.trans ?_ (Cert.Modulation.final m c).symm
    exact congrArg (Cert.Reference12Ideal.Read.val_main_v20 (F := Ideal) _ _) (hagree c).2.2

/-- Every claim of the statement. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite_scores.Gen.facts,
  fun m ρ _ => Cert.Kernel.Gen.frame m ρ,
  fun m ρ _ => Cert.KernelIdeal.Gen.frame m ρ,
  fun m ρ _ => Cert.KernelIdeal.Gen.frame m ρ,
  frame_quiescent_ReferenceIdeal,
  frame_quiescent_ReferenceIdeal_pre_finite_scores,
  fun m ρ _ => Cert.Kernel2.Gen.frame m ρ,
  fun m ρ _ => Cert.Kernel2Ideal.Gen.frame m ρ,
  frame_quiescent_Reference2Ideal,
  fun m ρ _ => Cert.Kernel3.Gen.frame m ρ,
  fun m ρ _ => Cert.Kernel3Ideal.Gen.frame m ρ,
  frame_quiescent_Reference3Ideal,
  fun m ρ _ => Cert.Kernel4.Gen.frame m ρ,
  fun m ρ _ => Cert.Kernel4Ideal.Gen.frame m ρ,
  frame_quiescent_Reference4Ideal,
  fun m ρ _ => Cert.Kernel5.Gen.frame m ρ,
  fun m ρ _ => Cert.Kernel5Ideal.Gen.frame m ρ,
  frame_quiescent_Reference5Ideal,
  fun m ρ _ => Cert.Kernel6.Gen.frame m ρ,
  fun m ρ _ => Cert.Kernel6Ideal.Gen.frame m ρ,
  frame_quiescent_Reference6Ideal,
  fun m ρ _ => Cert.Kernel7.Gen.frame m ρ,
  fun m ρ _ => Cert.Kernel7Ideal.Gen.frame m ρ,
  frame_quiescent_Reference7Ideal,
  fun m ρ _ => Cert.Kernel8.Gen.frame m ρ,
  fun m ρ _ => Cert.Kernel8Ideal.Gen.frame m ρ,
  frame_quiescent_Reference8Ideal,
  fun m ρ _ => Cert.Kernel9.Gen.frame m ρ,
  fun m ρ _ => Cert.Kernel9Ideal.Gen.frame m ρ,
  frame_quiescent_Reference9Ideal,
  fun m ρ _ => Cert.Kernel10.Gen.frame m ρ,
  fun m ρ _ => Cert.Kernel10Ideal.Gen.frame m ρ,
  frame_quiescent_Reference10Ideal,
  fun m ρ _ => Cert.Kernel11.Gen.frame m ρ,
  fun m ρ _ => Cert.Kernel11Ideal.Gen.frame m ρ,
  frame_quiescent_Reference11Ideal,
  fun m ρ _ => Cert.Kernel12.Gen.frame m ρ,
  fun m ρ _ => Cert.Kernel12Ideal.Gen.frame m ρ,
  frame_quiescent_Reference12Ideal,
  trivial,
  value_algebraic_KernelIdeal_ReferenceIdeal_pre_finite_scores,
  trivial,
  value_algebraic_Kernel2Ideal_Reference2Ideal,
  trivial,
  value_algebraic_Kernel3Ideal_Reference3Ideal,
  trivial,
  value_algebraic_Kernel4Ideal_Reference4Ideal,
  trivial,
  value_algebraic_Kernel5Ideal_Reference5Ideal,
  trivial,
  value_algebraic_Kernel6Ideal_Reference6Ideal,
  trivial,
  value_algebraic_Kernel7Ideal_Reference7Ideal,
  trivial,
  value_algebraic_Kernel8Ideal_Reference8Ideal,
  trivial,
  value_algebraic_Kernel9Ideal_Reference9Ideal,
  trivial,
  value_algebraic_Kernel10Ideal_Reference10Ideal,
  trivial,
  value_algebraic_Kernel11Ideal_Reference11Ideal,
  trivial,
  value_algebraic_Kernel12Ideal_Reference12Ideal⟩

end Cert.Proof

end
